-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S4096x2048 : Shape := ⟨2, ![4096, 2048]⟩
abbrev S5 : Shape := ⟨1, ![5]⟩
abbrev S4x2048x16x128 : Shape := ⟨4, ![4, 2048, 16, 128]⟩
abbrev S4 : Shape := ⟨1, ![4]⟩
abbrev S_ : Shape := ⟨0, ![]⟩
abbrev S2048 : Shape := ⟨1, ![2048]⟩
abbrev S2048x6144 : Shape := ⟨2, ![2048, 6144]⟩
abbrev S6144 : Shape := ⟨1, ![6144]⟩
abbrev S2048x2048 : Shape := ⟨2, ![2048, 2048]⟩
abbrev S4x512x16x128 : Shape := ⟨4, ![4, 512, 16, 128]⟩
abbrev S2048x4096 : Shape := ⟨2, ![2048, 4096]⟩
abbrev S4096 : Shape := ⟨1, ![4096]⟩

class Facts : Prop where
  slices_S4x2048x16x128_S4x512x16x128_0_0_0_0 : S4x2048x16x128.Slices ![0, 0, 0, 0] S4x512x16x128
  bcast_S_S4x512x16x128 : S_.BroadcastsInDim S4x512x16x128 (![] : Fin 0 → Fin S4x512x16x128.rank)
  bcast_S_S2048 : S_.BroadcastsInDim S2048 (![] : Fin 0 → Fin S2048.rank)
  slices_S2048x6144_S2048x4096_0_0 : S2048x6144.Slices ![0, 0] S2048x4096
  bcast_S_S2048x4096 : S_.BroadcastsInDim S2048x4096 (![] : Fin 0 → Fin S2048x4096.rank)
  slices_S6144_S4096_0 : S6144.Slices ![0] S4096
  bcast_S_S4096 : S_.BroadcastsInDim S4096 (![] : Fin 0 → Fin S4096.rank)

variable [Facts]

def fn {F : FTy → Type} [FloatOps F] (main_arg0 : FVec F S4096x2048 .f32) (main_arg1 : IVec S5 32) (main_arg2 : FVec F S4x2048x16x128 .f32) (main_arg3 : FVec F S4x2048x16x128 .f32) (main_arg4 : IVec S4 32) (main_arg5 : IVec S_ 32) (main_arg6 : FVec F S2048 .f32) (main_arg7 : FVec F S2048 .f32) (main_arg8 : FVec F S2048x6144 .f32) (main_arg9 : FVec F S6144 .f32) (main_arg10 : FVec F S2048x2048 .f32) (main_arg11 : FVec F S2048 .f32) : IVec S4x512x16x128 1 × IVec S2048 1 × IVec S2048 1 × IVec S2048x4096 1 × IVec S4096 1 :=
  let main_v0 : FVec F S4x512x16x128 .f32 := (extractStridedSlice S4x512x16x128 ![0, 0, 0, 0] · slices_S4x2048x16x128_S4x512x16x128_0_0_0_0) main_arg2
  let main_v1 : FVec F S4x512x16x128 .f32 := Host.absf main_v0
  let main_cst : FVec F S_ .f32 := constant S_ .f32 0x7F800000#32
  let main_v2 : FVec F S4x512x16x128 .f32 := broadcastInDim S4x512x16x128 ![] bcast_S_S4x512x16x128 main_cst
  let main_v3 : IVec S4x512x16x128 1 := cmpf .olt main_v1 main_v2
  let main_v4 : FVec F S2048 .f32 := Host.absf main_arg6
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_v7 : FVec F S2048 .f32 := Host.absf main_arg7
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : FVec F S2048x4096 .f32 := (extractStridedSlice S2048x4096 ![0, 0] · slices_S2048x6144_S2048x4096_0_0) main_arg8
  let main_v11 : FVec F S2048x4096 .f32 := Host.absf main_v10
  let main_cst_2 : FVec F S_ .f32 := constant S_ .f32 0x7F800000#32
  let main_v12 : FVec F S2048x4096 .f32 := broadcastInDim S2048x4096 ![] bcast_S_S2048x4096 main_cst_2
  let main_v13 : IVec S2048x4096 1 := cmpf .olt main_v11 main_v12
  let main_v14 : FVec F S4096 .f32 := (extractStridedSlice S4096 ![0] · slices_S6144_S4096_0) main_arg9
  let main_v15 : FVec F S4096 .f32 := Host.absf main_v14
  let main_cst_3 : FVec F S_ .f32 := constant S_ .f32 0x7F800000#32
  let main_v16 : FVec F S4096 .f32 := broadcastInDim S4096 ![] bcast_S_S4096 main_cst_3
  let main_v17 : IVec S4096 1 := cmpf .olt main_v15 main_v16
  (main_v3, main_v6, main_v9, main_v13, main_v17)
-- ==== Kernel.lean ====
abbrev S4096x2048 : Shape := ⟨2, ![4096, 2048]⟩
abbrev S5 : Shape := ⟨1, ![5]⟩
abbrev S4x2048x16x128 : Shape := ⟨4, ![4, 2048, 16, 128]⟩
abbrev S4 : Shape := ⟨1, ![4]⟩
abbrev S_ : Shape := ⟨0, ![]⟩
abbrev S2048 : Shape := ⟨1, ![2048]⟩
abbrev S2048x6144 : Shape := ⟨2, ![2048, 6144]⟩
abbrev S6144 : Shape := ⟨1, ![6144]⟩
abbrev S2048x2048 : Shape := ⟨2, ![2048, 2048]⟩
abbrev S1x2048 : Shape := ⟨2, ![1, 2048]⟩
abbrev S1x6144 : Shape := ⟨2, ![1, 6144]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S4x1024x2048 : Shape := ⟨3, ![4, 1024, 2048]⟩
abbrev S4x2048x2048 : Shape := ⟨3, ![4, 2048, 2048]⟩
abbrev S1x1024x128 : Shape := ⟨3, ![1, 1024, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1x768x128 : Shape := ⟨3, ![1, 768, 128]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 27
  | .vmem => 35
  | .smem => 0
  | _ => 0

abbrev bufTy : (tb : Table) → Fin (tcTables nBuf tb) → BufTy
  | .hbm, ⟨0, _⟩ => ⟨S4096x2048, .f32⟩
  | .hbm, ⟨1, _⟩ => ⟨S5, .i32⟩
  | .hbm, ⟨2, _⟩ => ⟨S4x2048x16x128, .f32⟩
  | .hbm, ⟨3, _⟩ => ⟨S4x2048x16x128, .f32⟩
  | .hbm, ⟨4, _⟩ => ⟨S4, .i32⟩
  | .hbm, ⟨5, _⟩ => ⟨S_, .i32⟩
  | .hbm, ⟨6, _⟩ => ⟨S2048, .f32⟩
  | .hbm, ⟨7, _⟩ => ⟨S2048, .f32⟩
  | .hbm, ⟨8, _⟩ => ⟨S2048x6144, .f32⟩
  | .hbm, ⟨9, _⟩ => ⟨S6144, .f32⟩
  | .hbm, ⟨10, _⟩ => ⟨S2048x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S1x6144, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4x1024x2048, .f32⟩
  | .hbm, ⟨19, _⟩ => ⟨S4x1024x2048, .f32⟩
  | .hbm, ⟨20, _⟩ => ⟨S4x1024x2048, .f32⟩
  | .hbm, ⟨21, _⟩ => ⟨S4x2048x2048, .f32⟩
  | .hbm, ⟨22, _⟩ => ⟨S4x2048x2048, .f32⟩
  | .hbm, ⟨23, _⟩ => ⟨S4x1024x2048, .f32⟩
  | .hbm, ⟨24, _⟩ => ⟨S4096x2048, .f32⟩
  | .hbm, ⟨25, _⟩ => ⟨S1x2048, .f32⟩
  | .hbm, ⟨26, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x2048, .f32⟩
  | .local _ .vmem, ⟨15, _⟩ => ⟨S1x1024x128, .f32⟩
  | .local _ .vmem, ⟨16, _⟩ => ⟨S1x1024x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x1024x128, .f32⟩
  | .local _ .vmem, ⟨22, _⟩ => ⟨S1x1024x128, .f32⟩
  | .local _ .vmem, ⟨23, _⟩ => ⟨S1x1024x128, .f32⟩
  | .local _ .vmem, ⟨24, _⟩ => ⟨S1x1024x128, .f32⟩
  | .local _ .vmem, ⟨25, _⟩ => ⟨S1x1024x128, .f32⟩
  | .local _ .vmem, ⟨26, _⟩ => ⟨S1x1024x128, .f32⟩
  | .local _ .vmem, ⟨27, _⟩ => ⟨S1024x2048, .f32⟩
  | .local _ .vmem, ⟨28, _⟩ => ⟨S1024x2048, .f32⟩
  | .local _ .vmem, ⟨29, _⟩ => ⟨S2048x1024, .f32⟩
  | .local _ .vmem, ⟨30, _⟩ => ⟨S2048x1024, .f32⟩
  | .local _ .vmem, ⟨31, _⟩ => ⟨S1x1024, .f32⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨2, ![4, 12], ![false, false]⟩

def k0_cond2 (i : grid0.Coords) : BitVec 1 :=
  let arg1 : BitVec 32 := BitVec.ofNat 32 (i 1).val
  let c0_i32_6 : BitVec 32 := 0#32
  let v11 : BitVec 1 := Scalar.cmpi .sgt arg1 c0_i32_6
  let v12 : BitVec 32 := Scalar.extui v11
  let c0_i32_7 : BitVec 32 := 0#32
  let v13 : BitVec 1 := Scalar.cmpi .slt arg1 c0_i32_7
  let v14 : BitVec 32 := Scalar.extui v13
  let v15 : BitVec 32 := Scalar.subi v12 v14
  let c4_i32 : BitVec 32 := 4#32
  let c0_i32_8 : BitVec 32 := 0#32
  let v16 : BitVec 1 := Scalar.cmpi .sgt c4_i32 c0_i32_8
  let v17 : BitVec 32 := Scalar.extui v16
  let c0_i32_9 : BitVec 32 := 0#32
  let v18 : BitVec 1 := Scalar.cmpi .slt c4_i32 c0_i32_9
  let v19 : BitVec 32 := Scalar.extui v18
  let v20 : BitVec 32 := Scalar.subi v17 v19
  let v21 : BitVec 1 := Scalar.cmpi .ne v15 v20
  let v22 : BitVec 32 := Scalar.remsi arg1 c4_i32
  let c0_i32_10 : BitVec 32 := 0#32
  let v23 : BitVec 1 := Scalar.cmpi .ne v22 c0_i32_10
  let v24 : BitVec 1 := Scalar.andi v21 v23
  let v10 : BitVec 32 := Scalar.divsi arg1 c4_i32
  let c1_i32 : BitVec 32 := 1#32
  let v25 : BitVec 32 := Scalar.subi v10 c1_i32
  let v26 : BitVec 32 := Scalar.select v24 v25 v10
  let c0_i32_11 : BitVec 32 := 0#32
  let v27 : BitVec 1 := Scalar.cmpi .eq v26 c0_i32_11
  let v28 : BitVec 32 := Scalar.extui v27
  let c0_i32_12 : BitVec 32 := 0#32
  let v29 : BitVec 1 := Scalar.cmpi .ne v28 c0_i32_12
  v29

def k0_cond3 (i : grid0.Coords) : BitVec 1 :=
  let arg1 : BitVec 32 := BitVec.ofNat 32 (i 1).val
  let c0_i32_6 : BitVec 32 := 0#32
  let v11 : BitVec 1 := Scalar.cmpi .sgt arg1 c0_i32_6
  let v12 : BitVec 32 := Scalar.extui v11
  let c0_i32_7 : BitVec 32 := 0#32
  let v13 : BitVec 1 := Scalar.cmpi .slt arg1 c0_i32_7
  let v14 : BitVec 32 := Scalar.extui v13
  let v15 : BitVec 32 := Scalar.subi v12 v14
  let c4_i32 : BitVec 32 := 4#32
  let c0_i32_8 : BitVec 32 := 0#32
  let v16 : BitVec 1 := Scalar.cmpi .sgt c4_i32 c0_i32_8
  let v17 : BitVec 32 := Scalar.extui v16
  let c0_i32_9 : BitVec 32 := 0#32
  let v18 : BitVec 1 := Scalar.cmpi .slt c4_i32 c0_i32_9
  let v19 : BitVec 32 := Scalar.extui v18
  let v20 : BitVec 32 := Scalar.subi v17 v19
  let v21 : BitVec 1 := Scalar.cmpi .ne v15 v20
  let v22 : BitVec 32 := Scalar.remsi arg1 c4_i32
  let c0_i32_10 : BitVec 32 := 0#32
  let v23 : BitVec 1 := Scalar.cmpi .ne v22 c0_i32_10
  let v24 : BitVec 1 := Scalar.andi v21 v23
  let v10 : BitVec 32 := Scalar.divsi arg1 c4_i32
  let c1_i32 : BitVec 32 := 1#32
  let v25 : BitVec 32 := Scalar.subi v10 c1_i32
  let v26 : BitVec 32 := Scalar.select v24 v25 v10
  let c1_i32_13 : BitVec 32 := 1#32
  let v30 : BitVec 1 := Scalar.cmpi .eq v26 c1_i32_13
  let v31 : BitVec 32 := Scalar.extui v30
  let c0_i32_14 : BitVec 32 := 0#32
  let v32 : BitVec 1 := Scalar.cmpi .ne v31 c0_i32_14
  v32

def k0_cond4 (i : grid0.Coords) : BitVec 1 :=
  let arg1 : BitVec 32 := BitVec.ofNat 32 (i 1).val
  let c0_i32_6 : BitVec 32 := 0#32
  let v11 : BitVec 1 := Scalar.cmpi .sgt arg1 c0_i32_6
  let v12 : BitVec 32 := Scalar.extui v11
  let c0_i32_7 : BitVec 32 := 0#32
  let v13 : BitVec 1 := Scalar.cmpi .slt arg1 c0_i32_7
  let v14 : BitVec 32 := Scalar.extui v13
  let v15 : BitVec 32 := Scalar.subi v12 v14
  let c4_i32 : BitVec 32 := 4#32
  let c0_i32_8 : BitVec 32 := 0#32
  let v16 : BitVec 1 := Scalar.cmpi .sgt c4_i32 c0_i32_8
  let v17 : BitVec 32 := Scalar.extui v16
  let c0_i32_9 : BitVec 32 := 0#32
  let v18 : BitVec 1 := Scalar.cmpi .slt c4_i32 c0_i32_9
  let v19 : BitVec 32 := Scalar.extui v18
  let v20 : BitVec 32 := Scalar.subi v17 v19
  let v21 : BitVec 1 := Scalar.cmpi .ne v15 v20
  let v22 : BitVec 32 := Scalar.remsi arg1 c4_i32
  let c0_i32_10 : BitVec 32 := 0#32
  let v23 : BitVec 1 := Scalar.cmpi .ne v22 c0_i32_10
  let v24 : BitVec 1 := Scalar.andi v21 v23
  let v10 : BitVec 32 := Scalar.divsi arg1 c4_i32
  let c1_i32 : BitVec 32 := 1#32
  let v25 : BitVec 32 := Scalar.subi v10 c1_i32
  let v26 : BitVec 32 := Scalar.select v24 v25 v10
  let c2_i32 : BitVec 32 := 2#32
  let v33 : BitVec 1 := Scalar.cmpi .eq v26 c2_i32
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S5 : Shape := ⟨1, ![5]⟩
abbrev S4x2048x16x128 : Shape := ⟨4, ![4, 2048, 16, 128]⟩
abbrev S4 : Shape := ⟨1, ![4]⟩
abbrev S_ : Shape := ⟨0, ![]⟩
abbrev S2048 : Shape := ⟨1, ![2048]⟩
abbrev S2048x6144 : Shape := ⟨2, ![2048, 6144]⟩
abbrev S6144 : Shape := ⟨1, ![6144]⟩
abbrev S2048x2048 : Shape := ⟨2, ![2048, 2048]⟩
abbrev S4096 : Shape := ⟨1, ![4096]⟩
abbrev S4096x1 : Shape := ⟨2, ![4096, 1]⟩
abbrev S1x2048 : Shape := ⟨2, ![1, 2048]⟩
abbrev S4096x6144 : Shape := ⟨2, ![4096, 6144]⟩
abbrev S1x6144 : Shape := ⟨2, ![1, 6144]⟩
abbrev S4x1024x16x128 : Shape := ⟨4, ![4, 1024, 16, 128]⟩
abbrev S4x512x16x128 : Shape := ⟨4, ![4, 512, 16, 128]⟩
abbrev S4x1536x16x128 : Shape := ⟨4, ![4, 1536, 16, 128]⟩
abbrev S4x16x1024x1536 : Shape := ⟨4, ![4, 16, 1024, 1536]⟩
abbrev S1024 : Shape := ⟨1, ![1024]⟩
abbrev S1536 : Shape := ⟨1, ![1536]⟩
abbrev S1x1536 : Shape := ⟨2, ![1, 1536]⟩
abbrev S1024x1 : Shape := ⟨2, ![1024, 1]⟩
abbrev S1024x1536 : Shape := ⟨2, ![1024, 1536]⟩
abbrev S1x1x1024x1536 : Shape := ⟨4, ![1, 1, 1024, 1536]⟩
abbrev S4x16x1024 : Shape := ⟨3, ![4, 16, 1024]⟩
abbrev S4x16x1024x1 : Shape := ⟨4, ![4, 16, 1024, 1]⟩
abbrev S4x16x128x1024 : Shape := ⟨4, ![4, 16, 128, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5, .i32⟩
  | .hbm, ⟨2, _⟩ => ⟨S4x2048x16x128, .f32⟩
  | .hbm, ⟨3, _⟩ => ⟨S4x2048x16x128, .f32⟩
  | .hbm, ⟨4, _⟩ => ⟨S4, .i32⟩
  | .hbm, ⟨5, _⟩ => ⟨S_, .i32⟩
  | .hbm, ⟨6, _⟩ => ⟨S2048, .f32⟩
  | .hbm, ⟨7, _⟩ => ⟨S2048, .f32⟩
  | .hbm, ⟨8, _⟩ => ⟨S2048x6144, .f32⟩
  | .hbm, ⟨9, _⟩ => ⟨S6144, .f32⟩
  | .hbm, ⟨10, _⟩ => ⟨S2048x2048, .f32⟩
  | .hbm, ⟨11, _⟩ => ⟨S2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x6144, .f32⟩
  | .hbm, ⟨42, _⟩ => ⟨S1x6144, .f32⟩
  | .hbm, ⟨43, _⟩ => ⟨S4096x6144, .f32⟩
  | .hbm, ⟨44, _⟩ => ⟨S4096x6144, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4x1024x16x128, .f32⟩
  | .hbm, ⟨49, _⟩ => ⟨S4x1024x16x128, .f32⟩
  | .hbm, ⟨50, _⟩ => ⟨S4x1024x16x128, .f32⟩
  | .hbm, ⟨51, _⟩ => ⟨S4x512x16x128, .f32⟩
  | .hbm, ⟨52, _⟩ => ⟨S4x1536x16x128, .f32⟩
  | .hbm, ⟨53, _⟩ => ⟨S4x512x16x128, .f32⟩
  | .hbm, ⟨54, _⟩ => ⟨S4x1536x16x128, .f32⟩
  | .hbm, ⟨55, _⟩ => ⟨S4x16x1024x1536, .f32⟩
  | .hbm, ⟨56, _⟩ => ⟨S_, .f32⟩
  | .hbm, ⟨57, _⟩ => ⟨S4x16x1024x1536, .f32⟩
  | .hbm, ⟨58, _⟩ => ⟨S4x16x1024x1536, .f32⟩
  | .hbm, ⟨59, _⟩ => ⟨S1024, .i32⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1536, .i32⟩
  | .hbm, ⟨64, _⟩ => ⟨S1x1536, .i32⟩
  | .hbm, ⟨65, _⟩ => ⟨S1024x1, .i32⟩
  | .hbm, ⟨66, _⟩ => ⟨S1024x1536, .i32⟩
  | .hbm, ⟨67, _⟩ => ⟨S1024x1536, .i32⟩
  | .hbm, ⟨68, _⟩ => ⟨S1024x1536, .i1⟩
  | .hbm, ⟨69, _⟩ => ⟨S1x1x1024x1536, .i1⟩
  | .hbm, ⟨70, _⟩ => ⟨S_, .f32⟩
  | .hbm, ⟨71, _⟩ => ⟨S_, .f32⟩
  | .hbm, ⟨72, _⟩ => ⟨S4x16x1024x1536, .i1⟩
  | .hbm, ⟨73, _⟩ => ⟨S4x16x1024x1536, .f32⟩
  | .hbm, ⟨74, _⟩ => ⟨S4x16x1024x1536, .f32⟩
  | .hbm, ⟨75, _⟩ => ⟨S_, .f32⟩
  | .hbm, ⟨76, _⟩ => ⟨S4x16x1024, .f32⟩
  | .hbm, ⟨77, _⟩ => ⟨S_, .f32⟩
  | .hbm, ⟨78, _⟩ => ⟨S4x16x1024, .f32⟩
  | .hbm, ⟨79, _⟩ => ⟨S4x16x1024, .f32⟩
  | .hbm, ⟨80, _⟩ => ⟨S4x16x1024x1, .f32⟩
  | .hbm, ⟨81, _⟩ => ⟨S4x16x1024x1536, .f32⟩
  | .hbm, ⟨82, _⟩ => ⟨S4x16x1024x1536, .f32⟩
  | .hbm, ⟨83, _⟩ => ⟨S4x16x1024x1536, .f32⟩
  | .hbm, ⟨84, _⟩ => ⟨S_, .f32⟩
  | .hbm, ⟨85, _⟩ => ⟨S4x16x1024, .f32⟩
  | .hbm, ⟨86, _⟩ => ⟨S4x16x1024x1, .f32⟩
  | .hbm, ⟨87, _⟩ => ⟨S4x16x1024x1536, .f32⟩
  | .hbm, ⟨88, _⟩ => ⟨S4x16x1024x1536, .f32⟩
  | .hbm, ⟨89, _⟩ => ⟨S4x16x128x1024, .f32⟩
  | .hbm, ⟨90, _⟩ => ⟨S4x1024x16x128, .f32⟩
  | .hbm, ⟨91, _⟩ => ⟨S4096x2048, .f32⟩
  | .hbm, ⟨92, _⟩ => ⟨S4096x2048, .f32⟩
  | .hbm, ⟨93, _⟩ => ⟨S1x2048, .f32⟩
  | .hbm, ⟨94, _⟩ => ⟨S4096x2048, .f32⟩
  | .hbm, ⟨95, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Proof.KernelIdealLnBody.lean ====
/- The first call of the kernel: at the first of twelve points it normalises a block of rows into its scratch buffer, and
   at every point it multiplies the scratch by one block of weights and adds biases; the product goes to the block of
   queries, keys or values the point is for. This module proves the body at every combination of its branches. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The point is the first of its twelve (the body's first branch). -/
abbrev first0 (i : grid0.Coords) : Prop :=
  Scalar.cmpi .ne (Scalar.extui (Scalar.cmpi .eq (BitVec.ofNat 32 (i 1).val) 0#32)) 0#32 = 1#1

/-- An output block after the body: the fresh product where its branch is taken, otherwise what it was. -/
def blockNext (p : Prop) [Decidable p] (y o : Vec F S1024x512 .f32) : Vec F S1024x512 .f32 := if p then y else o

/-- The first payload of inputs read through their whole rectangles. -/
theorem pay1_ld (x : Vec F S1024x2048 .f32) (g b : Vec F S1x2048 .f32) :
    k0_pay1 (View.ld x (Rect.unit (s := S1024x2048) ![0, 0] S1024x2048.size inb_S1024x2048_S1024x2048_0_0))
      (View.ld g (Rect.unit (s := S1x2048) ![0, 0] S1x2048.size inb_S1x2048_S1x2048_0_0))
      (View.ld b (Rect.unit (s := S1x2048) ![0, 0] S1x2048.size inb_S1x2048_S1x2048_0_0)) = k0_pay1 x g b := by
  rw [View.ld_unit_zero (by decide), View.ld_unit_zero (by decide), View.ld_unit_zero (by decide)]

/-- The second payload of weights and biases read through their whole rectangles, the rows given by any equation. -/
theorem pay2_ld {s s' : Vec F S1024x2048 .f32} (h : s = s') (w : Vec F S2048x512 .f32) (b : Vec F S1x512 .f32) :
    k0_pay2 s (View.ld w (Rect.unit (s := S2048x512) ![0, 0] S2048x512.size inb_S2048x512_S2048x512_0_0))
      (View.ld b (Rect.unit (s := S1x512) ![0, 0] S1x512.size inb_S1x512_S1x512_0_0)) = k0_pay2 s' w b := by
  rw [h, View.ld_unit_zero (by decide), View.ld_unit_zero (by decide)]

set_option maxHeartbeats 2000000 in
/-- The first call's body at a first point, in every combination of its other branches: the scratch is filled and used. -/
theorem ln_body_first (c : Dev nD) (E : Set ℕ) (i : grid0.Coords) (h1 : first0 i)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S2048x512 .f32) (harg5 : arg5.IsWhole)
    (arg6 : Memref sig .tc .vmem S1x512 .f32) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x512 .f32) (harg9 : arg9.IsWhole)
    (arg10 : Memref sig .tc .vmem S1024x2048 .f32) (harg10 : arg10.IsWhole)
    (x : Vec F S1024x2048 .f32) (g b : Vec F S1x2048 .f32) (w : Vec F S2048x512 .f32) (wb : Vec F S1x512 .f32)
    (o5 o6 o7 : Vec F S1024x512 .f32) (s : Vec F S1024x2048 .f32) (K : PUnit → sProp 𝕄) :
    iprop(owns (c : Thread nD τ) arg2 fullShare x ∗ owns (c : Thread nD τ) arg3 fullShare g
        ∗ owns (c : Thread nD τ) arg4 fullShare b ∗ owns (c : Thread nD τ) arg5 fullShare w
        ∗ owns (c : Thread nD τ) arg6 fullShare wb ∗ owns (c : Thread nD τ) arg7 fullShare o5
        ∗ owns (c : Thread nD τ) arg8 fullShare o6 ∗ owns (c : Thread nD τ) arg9 fullShare o7
        ∗ owns (c : Thread nD τ) arg10 fullShare s
        ∗ (iprop(owns (c : Thread nD τ) arg2 fullShare x ∗ owns (c : Thread nD τ) arg3 fullShare g
        ∗ owns (c : Thread nD τ) arg4 fullShare b ∗ owns (c : Thread nD τ) arg5 fullShare w
        ∗ owns (c : Thread nD τ) arg6 fullShare wb
        ∗ owns (c : Thread nD τ) arg7 fullShare (blockNext (k0_cond2 i = 1#1) (k0_pay2 (k0_pay1 x g b) w wb) o5)
        ∗ owns (c : Thread nD τ) arg8 fullShare (blockNext (k0_cond3 i = 1#1) (k0_pay2 (k0_pay1 x g b) w wb) o6)
        ∗ owns (c : Thread nD τ) arg9 fullShare (blockNext (k0_cond4 i = 1#1) (k0_pay2 (k0_pay1 x g b) w wb) o7)
        ∗ owns (c : Thread nD τ) arg10 fullShare (k0_pay1 x g b)) -∗ K ⟨⟩))
      ⊢ wp frame (wpE (defs₀ (F := F)) Variants.none c none) E
          (cc0_ln_qkv i arg2 harg2 arg3 harg3 arg4 harg4 arg5 harg5 arg6 harg6 arg7 harg7 arg8 harg8 arg9 harg9 arg10 harg10) K := by
  simp only [cc0_ln_qkv_eq_skeleton]; unfold cc0_ln_qkv_skel
  simp only [k0_part1_eq_skeleton]
  by_cases h2 : k0_cond2 i = 1#1 <;> by_cases h3 : k0_cond3 i = 1#1 <;> by_cases h4 : k0_cond4 i = 1#1 <;>
  · unfold blockNext
    first | rw [if_pos h2] | rw [if_neg h2]
    first | rw [if_pos h3] | rw [if_neg h3]
    first | rw [if_pos h4] | rw [if_neg h4]
    unfold owns
    iintro ⟨⟨%fx, %hx, Hx⟩, ⟨%fg, %hg, Hg⟩, ⟨%fb, %hb, Hb⟩, ⟨%fw, %hw, Hw⟩, ⟨%fwb, %hwb, Hwb⟩, ⟨%f5, %hf5, H5⟩, ⟨%f6, %hf6, H6⟩, ⟨%f7, %hf7, H7⟩, ⟨%fs, %hfs, Hs⟩, Hk⟩
    subst hx hg hb hw hwb
    sl_exec (disch := first | sl_exact h1 | sl_exact h2 | sl_exact h3 | sl_exact h4)
    sl_step
    iapply Hk
    isplitl [Hx]
    · iexists fx; isplitr; · ipureintro; rfl
      iexact Hx
    isplitl [Hg]
    · iexists fg; isplitr; · ipureintro; rfl
      iexact Hg
    isplitl [Hb]
    · iexists fb; isplitr; · ipureintro; rfl
      iexact Hb
    isplitl [Hw]
    · iexists fw; isplitr; · ipureintro; rfl
      iexact Hw
    isplitl [Hwb]
    · iexists fwb; isplitr; · ipureintro; rfl
      iexact Hwb
    isplitl [H5]
    · iexists _; isplitr; swap; · iexact H5
      ipureintro
      first
        | (have hn : ¬ (k0_cond2 i = 1#1) := h2; exact hf5)
        | (refine (View.read_writes_eq_canon _ _ _ (View.cover_of_tiled _ S1024x512.size (by rfl))).trans ?_
           refine (View.canon_unit_zero (by decide) _ _).trans ?_
           exact pay2_ld ((View.readCov_unit_zero (S := S1024x2048) (off := ![0, 0]) _ (by decide) _ _).trans
             (pay1_ld (arg2.view.read (Elt F) fx) (arg3.view.read (Elt F) fg) (arg4.view.read (Elt F) fb)))
             (arg5.view.read (Elt F) fw) (arg6.view.read (Elt F) fwb))
    isplitl [H6]
    · iexists _; isplitr; swap; · iexact H6
      ipureintro
      first
        | (have hn : ¬ (k0_cond3 i = 1#1) := h3; exact hf6)
        | (refine (View.read_writes_eq_canon _ _ _ (View.cover_of_tiled _ S1024x512.size (by rfl))).trans ?_
           refine (View.canon_unit_zero (by decide) _ _).trans ?_
           exact pay2_ld ((View.readCov_unit_zero (S := S1024x2048) (off := ![0, 0]) _ (by decide) _ _).trans
             (pay1_ld (arg2.view.read (Elt F) fx) (arg3.view.read (Elt F) fg) (arg4.view.read (Elt F) fb)))
             (arg5.view.read (Elt F) fw) (arg6.view.read (Elt F) fwb))
    isplitl [H7]
    · iexists _; isplitr; swap; · iexact H7
      ipureintro
      first
        | (have hn : ¬ (k0_cond4 i = 1#1) := h4; exact hf7)
        | (refine (View.read_writes_eq_canon _ _ _ (View.cover_of_tiled _ S1024x512.size (by rfl))).trans ?_
           refine (View.canon_unit_zero (by decide) _ _).trans ?_
           exact pay2_ld ((View.readCov_unit_zero (S := S1024x2048) (off := ![0, 0]) _ (by decide) _ _).trans
             (pay1_ld (arg2.view.read (Elt F) fx) (arg3.view.read (Elt F) fg) (arg4.view.read (Elt F) fb)))
             (arg5.view.read (Elt F) fw) (arg6.view.read (Elt F) fwb))
    · iexists _; isplitr; swap; · iexact Hs
      ipureintro
      refine (View.read_writes_eq_canon _ _ _ (View.cover_of_tiled _ S1024x2048.size (by rfl))).trans ?_
      exact (View.canon_unit_zero (by decide) _ _).trans
        (pay1_ld (arg2.view.read (Elt F) fx) (arg3.view.read (Elt F) fg) (arg4.view.read (Elt F) fb))

set_option maxHeartbeats 2000000 in
/-- The first call's body at any other point: the scratch is used as it is. -/
theorem ln_body_later (c : Dev nD) (E : Set ℕ) (i : grid0.Coords) (h1 : ¬ first0 i)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S2048x512 .f32) (harg5 : arg5.IsWhole)
    (arg6 : Memref sig .tc .vmem S1x512 .f32) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x512 .f32) (harg9 : arg9.IsWhole)
    (arg10 : Memref sig .tc .vmem S1024x2048 .f32) (harg10 : arg10.IsWhole)
    (x : Vec F S1024x2048 .f32) (g b : Vec F S1x2048 .f32) (w : Vec F S2048x512 .f32) (wb : Vec F S1x512 .f32)
    (o5 o6 o7 : Vec F S1024x512 .f32) (s : Vec F S1024x2048 .f32) (K : PUnit → sProp 𝕄) :
    iprop(owns (c : Thread nD τ) arg2 fullShare x ∗ owns (c : Thread nD τ) arg3 fullShare g
        ∗ owns (c : Thread nD τ) arg4 fullShare b ∗ owns (c : Thread nD τ) arg5 fullShare w
        ∗ owns (c : Thread nD τ) arg6 fullShare wb ∗ owns (c : Thread nD τ) arg7 fullShare o5
        ∗ owns (c : Thread nD τ) arg8 fullShare o6 ∗ owns (c : Thread nD τ) arg9 fullShare o7
        ∗ owns (c : Thread nD τ) arg10 fullShare s
        ∗ (iprop(owns (c : Thread nD τ) arg2 fullShare x ∗ owns (c : Thread nD τ) arg3 fullShare g
        ∗ owns (c : Thread nD τ) arg4 fullShare b ∗ owns (c : Thread nD τ) arg5 fullShare w
        ∗ owns (c : Thread nD τ) arg6 fullShare wb
        ∗ owns (c : Thread nD τ) arg7 fullShare (blockNext (k0_cond2 i = 1#1) (k0_pay2 s w wb) o5)
        ∗ owns (c : Thread nD τ) arg8 fullShare (blockNext (k0_cond3 i = 1#1) (k0_pay2 s w wb) o6)
        ∗ owns (c : Thread nD τ) arg9 fullShare (blockNext (k0_cond4 i = 1#1) (k0_pay2 s w wb) o7)
        ∗ owns (c : Thread nD τ) arg10 fullShare s) -∗ K ⟨⟩))
      ⊢ wp frame (wpE (defs₀ (F := F)) Variants.none c none) E
          (cc0_ln_qkv i arg2 harg2 arg3 harg3 arg4 harg4 arg5 harg5 arg6 harg6 arg7 harg7 arg8 harg8 arg9 harg9 arg10 harg10) K := by
  simp only [cc0_ln_qkv_eq_skeleton]; unfold cc0_ln_qkv_skel
  simp only [k0_part1_eq_skeleton]
  by_cases h2 : k0_cond2 i = 1#1 <;> by_cases h3 : k0_cond3 i = 1#1 <;> by_cases h4 : k0_cond4 i = 1#1 <;>
  · unfold blockNext
    first | rw [if_pos h2] | rw [if_neg h2]
    first | rw [if_pos h3] | rw [if_neg h3]
    first | rw [if_pos h4] | rw [if_neg h4]
    unfold owns
    iintro ⟨⟨%fx, %hx, Hx⟩, ⟨%fg, %hg, Hg⟩, ⟨%fb, %hb, Hb⟩, ⟨%fw, %hw, Hw⟩, ⟨%fwb, %hwb, Hwb⟩, ⟨%f5, %hf5, H5⟩, ⟨%f6, %hf6, H6⟩, ⟨%f7, %hf7, H7⟩, ⟨%fs, %hfs, Hs⟩, Hk⟩
    subst hx hg hb hw hwb
    sl_exec (disch := first | sl_exact h1 | sl_exact h2 | sl_exact h3 | sl_exact h4)
    sl_step
    iapply Hk
    isplitl [Hx]
    · iexists fx; isplitr; · ipureintro; rfl
      iexact Hx
    isplitl [Hg]
    · iexists fg; isplitr; · ipureintro; rfl
      iexact Hg
    isplitl [Hb]
    · iexists fb; isplitr; · ipureintro; rfl
      iexact Hb
    isplitl [Hw]
    · iexists fw; isplitr; · ipureintro; rfl
      iexact Hw
    isplitl [Hwb]
    · iexists fwb; isplitr; · ipureintro; rfl
      iexact Hwb
    isplitl [H5]
    · iexists _; isplitr; swap; · iexact H5
      ipureintro
      first
        | (have hn : ¬ (k0_cond2 i = 1#1) := h2; exact hf5)
        | (refine (View.read_writes_eq_canon _ _ _ (View.cover_of_tiled _ S1024x512.size (by rfl))).trans ?_
           refine (View.canon_unit_zero (by decide) _ _).trans ?_
           exact pay2_ld ((View.ld_unit_zero (S := S1024x2048) (off := ![0, 0]) (by decide) inb_S1024x2048_S1024x2048_0_0
             (arg10.view.read (Elt F) fs)).trans hfs)
             (arg5.view.read (Elt F) fw) (arg6.view.read (Elt F) fwb))
    isplitl [H6]
    · iexists _; isplitr; swap; · iexact H6
      ipureintro
      first
        | (have hn : ¬ (k0_cond3 i = 1#1) := h3; exact hf6)
        | (refine (View.read_writes_eq_canon _ _ _ (View.cover_of_tiled _ S1024x512.size (by rfl))).trans ?_
           refine (View.canon_unit_zero (by decide) _ _).trans ?_
           exact pay2_ld ((View.ld_unit_zero (S := S1024x2048) (off := ![0, 0]) (by decide) inb_S1024x2048_S1024x2048_0_0
             (arg10.view.read (Elt F) fs)).trans hfs)
             (arg5.view.read (Elt F) fw) (arg6.view.read (Elt F) fwb))
    isplitl [H7]
    · iexists _; isplitr; swap; · iexact H7
      ipureintro
      first
        | (have hn : ¬ (k0_cond4 i = 1#1) := h4; exact hf7)
        | (refine (View.read_writes_eq_canon _ _ _ (View.cover_of_tiled _ S1024x512.size (by rfl))).trans ?_
           refine (View.canon_unit_zero (by decide) _ _).trans ?_
           exact pay2_ld ((View.ld_unit_zero (S := S1024x2048) (off := ![0, 0]) (by decide) inb_S1024x2048_S1024x2048_0_0
             (arg10.view.read (Elt F) fs)).trans hfs)
             (arg5.view.read (Elt F) fw) (arg6.view.read (Elt F) fwb))
    · iexists _; isplitr; swap; · iexact Hs
      ipureintro
      exact hfs

end Cert.KernelIdeal.Hand

end
-- ==== Proof.KernelIdealLn.lean ====
/- The first call's pipeline: which products its output blocks carry between the points that store them, the scratch
   rows carried from the first of twelve points to the others, and the body at every grid point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealLnBody
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the buffers as the first call finds them
variable (V : (c : Dev nD) → (b : Ref sig .tc) → Buf (Elt F) ((c : Thread nD τ).loc b))

/-- The part of window `w`'s array that grid point `t` works on. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- There are 48 grid points. -/
theorem pts0 (t : Fin cfg0.N) : t.val < 48 := lt_of_lt_of_eq t.isLt (show cfg0.N = 48 from N_0)

/-- The first of the twelve points that `t` belongs to. -/
def ptFirst (t : Fin cfg0.N) : Fin cfg0.N := ⟨t.val / 12 * 12, by have := t.isLt; omega⟩
/-- The point whose product the block of queries holds at `t`. -/
def ptQ (t : Fin cfg0.N) : Fin cfg0.N := ⟨t.val / 12 * 12 + min (t.val % 12) 3, by have := t.isLt; omega⟩
/-- The point whose product the block of keys holds at `t`. -/
def ptK (t : Fin cfg0.N) : Fin cfg0.N :=
  ⟨t.val / 12 * 12 + max 4 (min (t.val % 12) 7), lt_of_lt_of_eq (by have := pts0 t; omega : _ < 48) (show cfg0.N = 48 from N_0).symm⟩
/-- The point whose product the block of values holds at `t`. -/
def ptV (t : Fin cfg0.N) : Fin cfg0.N :=
  ⟨t.val / 12 * 12 + max 8 (t.val % 12), lt_of_lt_of_eq (by have := pts0 t; omega : _ < 48) (show cfg0.N = 48 from N_0).symm⟩

/-- The normalised rows in the scratch at point `t`. -/
def rowsAt (c : Dev nD) (t : Fin cfg0.N) : Vec F S1024x2048 .f32 :=
  k0_pay1 (blk0 V c 0 (ptFirst t)) (blk0 V c 1 (ptFirst t)) (blk0 V c 2 (ptFirst t))
/-- The product of point `t`. -/
def prodAt (c : Dev nD) (t : Fin cfg0.N) : Vec F S1024x512 .f32 := k0_pay2 (rowsAt V c t) (blk0 V c 3 t) (blk0 V c 4 t)

/-- What is carried between points: the scratch, at the rows of its twelve once they are there, the other scoped
    buffers, and the generator's register. -/
def lnInv (c : Dev nD) (n : ℕ) : sProp 𝕄 :=
  iprop((∃ f : Vec F S1024x2048 .f32, ⌜∀ t : Fin cfg0.N, t.val = n → t.val % 12 ≠ 0 → f = rowsAt V c t⌝
        ∗ owns (c : Thread nD τ) (Memref.whole cc0_scratch0) fullShare f)
    ∗ Pipeline.scopedRestBut (Ix := Unit) (Name := ℕ) (U := UR sig nD τ) (Lvl := ℕ) (Val := Elt F) spec0 c [cc0_scratch0]
    ∗ ∃ r, prngReg c r)

/-- The scoped buffers of the first call: its scratch, then all the others. -/
theorem scoped0_split (c : Dev nD) : (Pipeline.scopedRest (Ix := Unit) (Name := ℕ) (U := UR sig nD τ) (Lvl := ℕ) (Val := Elt F) spec0 c : sProp 𝕄)
    = iprop((∃ f : Vec F S1024x2048 .f32, owns (c : Thread nD τ) (Memref.whole cc0_scratch0) fullShare f)
      ∗ Pipeline.scopedRestBut (Ix := Unit) (Name := ℕ) (U := UR sig nD τ) (Lvl := ℕ) (Val := Elt F) spec0 c [cc0_scratch0]) := by
  rw [Pipeline.scopedRest_split_of_list spec0 c [cc0_scratch0] (by decide) (by decide)]
  simp only [owns_whole]; rfl

/-- The scratch may start at anything. -/
theorem lnInv_start (c : Dev nD) : (Pipeline.ΦA spec0 c : sProp 𝕄) ⊢ lnInv V c 0 := by
  unfold Pipeline.ΦA lnInv; rw [scoped0_split]
  iintro ⟨⟨⟨%f, Hs⟩, Hr⟩, Hp⟩
  isplitl [Hs]
  · iexists f; isplitr
    · ipureintro; intro t h h'; exact absurd (by rw [h]) h'
    iexact Hs
  isplitl [Hr]; · iexact Hr
  iexact Hp

/-- What is carried can be given up for the plain ownership of the scoped buffers. -/
theorem lnInv_end (c : Dev nD) (n : ℕ) : lnInv V c n ⊢ (Pipeline.ΦA spec0 c : sProp 𝕄) := by
  unfold Pipeline.ΦA lnInv; rw [scoped0_split]
  iintro ⟨⟨%f, -, Hs⟩, Hr, Hp⟩
  isplitl [Hs Hr]
  · isplitl [Hs]
    · iexists f; iexact Hs
    iexact Hr
  iexact Hp

/-- The data of the first pipeline: inputs keep their blocks, the outputs carry the product last stored in them. -/
def lnDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => prodAt V c (ptQ t)
    | ⟨6, _⟩ => prodAt V c (ptK t)
    | ⟨7, _⟩ => prodAt V c (ptV t)
  Φ t := lnInv V c t.val
  q _ := fullShare
  owed _ := 0

/-- The first pipeline starts from the entry contents. -/
theorem lnDat_A (c : Dev nD) (w : Fin cfg0.W) : (lnDat V c).A w = V c (Pipeline.arrRef spec0 w) := by
  dsimp only [lnDat]

/-- The three outputs' blocks after a point. -/
theorem lnDat_out (c : Dev nD) (t : Fin cfg0.N) : (lnDat V c).after 5 t = prodAt V c (ptQ t)
    ∧ (lnDat V c).after 6 t = prodAt V c (ptK t) ∧ (lnDat V c).after 7 t = prodAt V c (ptV t) := by
  refine ⟨?_, ?_, ?_⟩ <;> dsimp only [lnDat]

/-- Before each point the five inputs' staging buffers hold the point's blocks. -/
theorem lnDat_before (c : Dev nD) (t : Fin cfg0.N) :
    (∀ d, (lnDat V c).before 0 t d = blk0 V c 0 t) ∧ (∀ d, (lnDat V c).before 1 t d = blk0 V c 1 t)
      ∧ (∀ d, (lnDat V c).before 2 t d = blk0 V c 2 t) ∧ (∀ d, (lnDat V c).before 3 t d = blk0 V c 3 t)
      ∧ (∀ d, (lnDat V c).before 4 t d = blk0 V c 4 t) := by
  refine ⟨fun d => ?_, fun d => ?_, fun d => ?_, fun d => ?_, fun d => ?_⟩ <;>
  · refine ((lnDat V c).before_in_eq_fetched _ rfl (fun _ => rfl) (fun _ _ _ => rfl) (fun t => ?_) t d).trans ?_
    · dsimp only [lnDat]; unfold Dat.blockOf blk0; dsimp only
    · unfold Dat.fetched Dat.blockOf blk0; rw [lnDat_A]; rfl

/-! ## The branches over the grid, and when an output block goes back to its array -/

/-- The first branch is taken at the first of every twelve points. -/
theorem first0_iff : ∀ t : Fin cfg0.N, first0 (grid0.coords t) ↔ t.val % 12 = 0 :=
  (by decide +kernel : ∀ t : Fin grid0.N, first0 (grid0.coords t) ↔ t.val % 12 = 0)
/-- The products of the first four points of twelve are queries. -/
theorem isQ_iff : ∀ t : Fin cfg0.N, k0_cond2 (grid0.coords t) = 1#1 ↔ t.val % 12 ≤ 3 :=
  (by decide +kernel : ∀ t : Fin grid0.N, k0_cond2 (grid0.coords t) = 1#1 ↔ t.val % 12 ≤ 3)
/-- The products of the next four are keys. -/
theorem isK_iff : ∀ t : Fin cfg0.N, k0_cond3 (grid0.coords t) = 1#1 ↔ (4 ≤ t.val % 12 ∧ t.val % 12 ≤ 7) :=
  (by decide +kernel : ∀ t : Fin grid0.N, k0_cond3 (grid0.coords t) = 1#1 ↔ (4 ≤ t.val % 12 ∧ t.val % 12 ≤ 7))
/-- The products of the last four are values. -/
theorem isV_iff : ∀ t : Fin cfg0.N, k0_cond4 (grid0.coords t) = 1#1 ↔ 8 ≤ t.val % 12 :=
  (by decide +kernel : ∀ t : Fin grid0.N, k0_cond4 (grid0.coords t) = 1#1 ↔ 8 ≤ t.val % 12)

/-- The block of queries goes back at the points 0, 1, 2 and 11 of twelve. -/
theorem flushQ_iff (t : Fin cfg0.N) : (cfg0.win 5).flush t = true ↔ (t.val % 12 ≤ 2 ∨ t.val % 12 = 11) := by
  rw [Pipeline.Window.flush_eq_flushF]
  exact (by decide +kernel : ∀ t : Fin grid0.N, win0_5.flushF t = true ↔ (t.val % 12 ≤ 2 ∨ t.val % 12 = 11)) t
/-- The block of keys goes back at the points 4, 5, 6 and 11 of twelve. -/
theorem flushK_iff (t : Fin cfg0.N) : (cfg0.win 6).flush t = true ↔ (4 ≤ t.val % 12 ∧ t.val % 12 ≤ 6 ∨ t.val % 12 = 11) := by
  rw [Pipeline.Window.flush_eq_flushF]
  exact (by decide +kernel : ∀ t : Fin grid0.N, win0_6.flushF t = true ↔ (4 ≤ t.val % 12 ∧ t.val % 12 ≤ 6 ∨ t.val % 12 = 11)) t
/-- The block of values goes back at the points 8, 9, 10 and 11 of twelve. -/
theorem flushV_iff (t : Fin cfg0.N) : (cfg0.win 7).flush t = true ↔ 8 ≤ t.val % 12 := by
  rw [Pipeline.Window.flush_eq_flushF]
  exact (by decide +kernel : ∀ t : Fin grid0.N, win0_7.flushF t = true ↔ 8 ≤ t.val % 12) t

/-- A Boolean is one side of an equivalence exactly when it is the decision of the other. -/
theorem bool_eq_decide {b : Bool} {p : Prop} [Decidable p] (h : b = true ↔ p) : b = decide p := by
  cases b <;> simp_all

/-- The block of queries is idle off its points. -/
theorem idleQ (t : Fin cfg0.N) : cfg0.idle 5 (cfg0.grid.coords t) = decide (¬ t.val % 12 ≤ 3) := by
  show (!(k0_cond2 (grid0.coords t) == 1#1)) = _
  exact bool_eq_decide (by rw [Bool.not_eq_true', beq_eq_false_iff_ne, ne_eq, isQ_iff])
/-- The block of keys is idle off its points. -/
theorem idleK (t : Fin cfg0.N) : cfg0.idle 6 (cfg0.grid.coords t) = decide (¬ (4 ≤ t.val % 12 ∧ t.val % 12 ≤ 7)) := by
  show (!(k0_cond3 (grid0.coords t) == 1#1)) = _
  exact bool_eq_decide (by rw [Bool.not_eq_true', beq_eq_false_iff_ne, ne_eq, isK_iff])
/-- The block of values is idle off its points. -/
theorem idleV (t : Fin cfg0.N) : cfg0.idle 7 (cfg0.grid.coords t) = decide (¬ 8 ≤ t.val % 12) := by
  show (!(k0_cond4 (grid0.coords t) == 1#1)) = _
  exact bool_eq_decide (by rw [Bool.not_eq_true', beq_eq_false_iff_ne, ne_eq, isV_iff])

/-- When the staging buffer of queries holds nothing yet. -/
theorem freshQ (n : ℕ) (h : n ≤ cfg0.N) : cfg0.fresh 5 n = decide (n % 12 ≤ 3) :=
  cfg0.fresh_tab 5 (fun n => decide (n % 12 ≤ 3)) rfl (fun t => by
    refine Bool.eq_iff_iff.mpr ?_
    rw [Bool.or_eq_true, Bool.and_eq_true, flushQ_iff, idleQ, decide_eq_true_eq, decide_eq_true_eq, decide_eq_true_eq]; omega) n h
/-- When the staging buffer of keys holds nothing yet. -/
theorem freshK (n : ℕ) (h : n ≤ cfg0.N) : cfg0.fresh 6 n = decide (n % 12 ≤ 7) :=
  cfg0.fresh_tab 6 (fun n => decide (n % 12 ≤ 7)) rfl (fun t => by
    refine Bool.eq_iff_iff.mpr ?_
    rw [Bool.or_eq_true, Bool.and_eq_true, flushK_iff, idleK, decide_eq_true_eq, decide_eq_true_eq, decide_eq_true_eq]; omega) n h

/-- At a last point of twelve the block of queries still holds the product of the fourth. -/
theorem beforeQ (c : Dev nD) (t : Fin cfg0.N) (h : t.val % 12 = 11) (d) : (lnDat V c).before 5 t d = prodAt V c (ptQ t) := by
  have same : ∀ (u : Fin cfg0.N) (hu : u.val ≠ 0), ¬ u.val % 12 ≤ 3 →
      (lnDat V c).after 5 u = (lnDat V c).after 5 ⟨u.val - 1, by have := u.isLt; omega⟩ := fun u hu h3 => by
    rw [(lnDat_out V c _).1, (lnDat_out V c _).1]
    exact congrArg _ (Fin.ext (by simp only [ptQ]; omega))
  rw [(lnDat V c).before_out_traj 5 rfl (fun _ _ => rfl) (fun u hu hi _ => by
    rw [idleQ] at hi; exact same u hu (of_decide_eq_true hi)) t.val t rfl d, freshQ _ (Nat.le_of_lt t.isLt),
    if_neg (by simp only [decide_eq_true_eq]; omega), ← same t (by omega) (by omega), (lnDat_out V c t).1]
/-- At a last point of twelve the block of keys still holds the product of the eighth. -/
theorem beforeK (c : Dev nD) (t : Fin cfg0.N) (h : t.val % 12 = 11) (d) : (lnDat V c).before 6 t d = prodAt V c (ptK t) := by
  have same : ∀ (u : Fin cfg0.N) (hu : u.val ≠ 0), ¬ u.val % 12 ≤ 7 →
      (lnDat V c).after 6 u = (lnDat V c).after 6 ⟨u.val - 1, by have := u.isLt; omega⟩ := fun u hu h3 => by
    rw [(lnDat_out V c _).2.1, (lnDat_out V c _).2.1]
    exact congrArg _ (Fin.ext (by simp only [ptK]; omega))
  rw [(lnDat V c).before_out_traj 6 rfl (fun _ _ => rfl) (fun u hu _ hf => by
    rw [freshK _ (Nat.le_of_lt u.isLt)] at hf; exact same u hu (of_decide_eq_false hf)) t.val t rfl d,
    freshK _ (Nat.le_of_lt t.isLt),
    if_neg (by simp only [decide_eq_true_eq]; omega), ← same t (by omega) (by omega), (lnDat_out V c t).2.1]

/-! ## The body at a grid point -/

/-- The block of queries after the body is what the pipeline expects of it. -/
theorem leaveQ (c : Dev nD) (t : Fin cfg0.N) (d) :
    owns (c : Thread nD τ) (st0_5 t) fullShare (blockNext (k0_cond2 (grid0.coords t) = 1#1) (prodAt V c t) ((lnDat V c).before 5 t d))
      ⊢ ((lnDat V c).leavesExact 5 t : sProp 𝕄) := by
  by_cases h : t.val % 12 ≤ 3
  · rw [show (lnDat V c).leavesExact 5 t = owns (c : Thread nD τ) (st0_5 t) fullShare ((lnDat V c).after 5 t) by
      unfold Dat.leavesExact; rw [idleQ, decide_eq_false (not_not.mpr h)], (lnDat_out V c t).1,
      show ptQ t = t from Fin.ext (by simp only [ptQ]; omega)]
    unfold blockNext; rw [if_pos ((isQ_iff t).mpr h)]
  · unfold blockNext; rw [if_neg (fun e => h ((isQ_iff t).mp e))]
    by_cases h' : t.val % 12 = 11
    · rw [show (lnDat V c).leavesExact 5 t = owns (c : Thread nD τ) (st0_5 t) fullShare ((lnDat V c).after 5 t) by
        unfold Dat.leavesExact; rw [idleQ, decide_eq_true h, (flushQ_iff t).mpr (.inr h')], (lnDat_out V c t).1, beforeQ V c t h']
    · rw [(lnDat V c).leavesExact_idle 5 t (by rw [idleQ]; exact decide_eq_true h)
        (by rw [← Bool.not_eq_true, flushQ_iff]; omega)]
      iintro H; iexists d; iexact H

/-- The block of keys after the body is what the pipeline expects of it. -/
theorem leaveK (c : Dev nD) (t : Fin cfg0.N) (d) :
    owns (c : Thread nD τ) (st0_6 t) fullShare (blockNext (k0_cond3 (grid0.coords t) = 1#1) (prodAt V c t) ((lnDat V c).before 6 t d))
      ⊢ ((lnDat V c).leavesExact 6 t : sProp 𝕄) := by
  by_cases h : 4 ≤ t.val % 12 ∧ t.val % 12 ≤ 7
  · rw [show (lnDat V c).leavesExact 6 t = owns (c : Thread nD τ) (st0_6 t) fullShare ((lnDat V c).after 6 t) by
      unfold Dat.leavesExact; rw [idleK, decide_eq_false (not_not.mpr h)], (lnDat_out V c t).2.1,
      show ptK t = t from Fin.ext (by simp only [ptK]; omega)]
    unfold blockNext; rw [if_pos ((isK_iff t).mpr h)]
  · unfold blockNext; rw [if_neg (fun e => h ((isK_iff t).mp e))]
    by_cases h' : t.val % 12 = 11
    · rw [show (lnDat V c).leavesExact 6 t = owns (c : Thread nD τ) (st0_6 t) fullShare ((lnDat V c).after 6 t) by
        unfold Dat.leavesExact; rw [idleK, decide_eq_true h, (flushK_iff t).mpr (.inr h')], (lnDat_out V c t).2.1, beforeK V c t h']
    · rw [(lnDat V c).leavesExact_idle 6 t (by rw [idleK]; exact decide_eq_true h)
        (by rw [← Bool.not_eq_true, flushK_iff]; omega)]
      iintro H; iexists d; iexact H

/-- The block of values after the body is what the pipeline expects of it. -/
theorem leaveV (c : Dev nD) (t : Fin cfg0.N) (d) :
    owns (c : Thread nD τ) (st0_7 t) fullShare (blockNext (k0_cond4 (grid0.coords t) = 1#1) (prodAt V c t) ((lnDat V c).before 7 t d))
      ⊢ ((lnDat V c).leavesExact 7 t : sProp 𝕄) := by
  by_cases h : 8 ≤ t.val % 12
  · rw [show (lnDat V c).leavesExact 7 t = owns (c : Thread nD τ) (st0_7 t) fullShare ((lnDat V c).after 7 t) by
      unfold Dat.leavesExact; rw [idleV, decide_eq_false (not_not.mpr h)], (lnDat_out V c t).2.2,
      show ptV t = t from Fin.ext (by simp only [ptV]; omega)]
    unfold blockNext; rw [if_pos ((isV_iff t).mpr h)]
  · unfold blockNext; rw [if_neg (fun e => h ((isV_iff t).mp e))]
    rw [(lnDat V c).leavesExact_idle 7 t (by rw [idleV]; exact decide_eq_true h)
      (by rw [← Bool.not_eq_true, flushV_iff]; exact h)]
    iintro H; iexists d; iexact H

/-- The rows of a point's twelve, seen from the next point of the same twelve. -/
theorem rowsAt_next (c : Dev nD) (t u : Fin cfg0.N) (h : u.val = t.val + 1) (h' : u.val % 12 ≠ 0) : rowsAt V c t = rowsAt V c u := by
  unfold rowsAt; rw [show ptFirst t = ptFirst u from Fin.ext (by simp only [ptFirst]; omega)]

set_option maxHeartbeats 1000000 in
/-- The body at a grid point, from the pipeline's data before the point to the data after it. -/
theorem ln_point (c : Dev nD) (t : Fin cfg0.N) :
    iprop((lnDat V c).Φ t.castSucc ∗ (lnDat V c).owesAt () t.castSucc
        ∗ (∃ d, owns (c : Thread nD τ) (st0_0 t) fullShare ((lnDat V c).before 0 t d))
        ∗ (∃ d, owns (c : Thread nD τ) (st0_1 t) fullShare ((lnDat V c).before 1 t d))
        ∗ (∃ d, owns (c : Thread nD τ) (st0_2 t) fullShare ((lnDat V c).before 2 t d))
        ∗ (∃ d, owns (c : Thread nD τ) (st0_3 t) fullShare ((lnDat V c).before 3 t d))
        ∗ (∃ d, owns (c : Thread nD τ) (st0_4 t) fullShare ((lnDat V c).before 4 t d))
        ∗ (∃ d, owns (c : Thread nD τ) (st0_5 t) fullShare ((lnDat V c).before 5 t d))
        ∗ (∃ d, owns (c : Thread nD τ) (st0_6 t) fullShare ((lnDat V c).before 6 t d))
        ∗ (∃ d, owns (c : Thread nD τ) (st0_7 t) fullShare ((lnDat V c).before 7 t d)))
      ⊢ wp frame (wpE (defs₀ (F := F)) Variants.none c none) Set.univ (bodyAt0 t) (fun _ =>
        iprop((lnDat V c).Φ t.succ ∗ (lnDat V c).owesAt () t.succ
        ∗ owns (c : Thread nD τ) (st0_0 t) fullShare ((lnDat V c).after 0 t)
        ∗ owns (c : Thread nD τ) (st0_1 t) fullShare ((lnDat V c).after 1 t)
        ∗ owns (c : Thread nD τ) (st0_2 t) fullShare ((lnDat V c).after 2 t)
        ∗ owns (c : Thread nD τ) (st0_3 t) fullShare ((lnDat V c).after 3 t)
        ∗ owns (c : Thread nD τ) (st0_4 t) fullShare ((lnDat V c).after 4 t)
        ∗ (lnDat V c).leavesExact 5 t ∗ (lnDat V c).leavesExact 6 t ∗ (lnDat V c).leavesExact 7 t)) := by
  obtain ⟨b0, b1, b2, b3, b4⟩ := lnDat_before V c t
  unfold bodyAt0
  simp only [b0, b1, b2, b3, b4]
  rw [show (lnDat V c).Φ t.succ = lnInv V c (t.val + 1) by dsimp only [lnDat, Fin.val_succ],
    show (lnDat V c).Φ t.castSucc = lnInv V c t.val by dsimp only [lnDat, Fin.val_castSucc],
    show (lnDat V c).owesAt () t.succ = (lnDat V c).owesAt () t.castSucc from rfl,
    show (lnDat V c).after 0 t = blk0 V c 0 t by dsimp only [lnDat],
    show (lnDat V c).after 1 t = blk0 V c 1 t by dsimp only [lnDat],
    show (lnDat V c).after 2 t = blk0 V c 2 t by dsimp only [lnDat],
    show (lnDat V c).after 3 t = blk0 V c 3 t by dsimp only [lnDat],
    show (lnDat V c).after 4 t = blk0 V c 4 t by dsimp only [lnDat]]
  have hQ := leaveQ V c t
  have hK := leaveK V c t
  have hV := leaveV V c t
  unfold prodAt at hQ hK hV
  unfold lnInv
  by_cases h : t.val % 12 = 0
  · have hrows : rowsAt V c t = k0_pay1 (blk0 V c 0 t) (blk0 V c 1 t) (blk0 V c 2 t) := by
      unfold rowsAt; rw [show ptFirst t = t from Fin.ext (by simp only [ptFirst]; omega)]
    rw [hrows] at hQ hK hV
    iintro ⟨⟨⟨%s, -, Hs⟩, Hr, Hp⟩, Hw, ⟨%d0, H0⟩, ⟨%d1, H1⟩, ⟨%d2, H2⟩, ⟨%d3, H3⟩, ⟨%d4, H4⟩, ⟨%d5, H5⟩, ⟨%d6, H6⟩, ⟨%d7, H7⟩⟩
    iapply (ln_body_first c Set.univ (grid0.coords t) ((first0_iff t).mpr h) _ _ _ _ _ _ _ _ _ _ _ _ _ _ _ _ _ _
      (blk0 V c 0 t) (blk0 V c 1 t) (blk0 V c 2 t) (blk0 V c 3 t) (blk0 V c 4 t) _ _ _ s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs]; · iexact Hs
    iintro ⟨H0, H1, H2, H3, H4, H5, H6, H7, Hs⟩
    isplitl [Hs Hr Hp]
    · isplitl [Hs]
      · iexists _; isplitr; swap; · iexact Hs
        ipureintro; exact fun u hu hu' => hrows.symm.trans (rowsAt_next V c t u hu hu')
      isplitl [Hr]; · iexact Hr
      iexact Hp
    isplitl [Hw]; · iexact Hw
    isplitl [H0]; · iexact H0
    isplitl [H1]; · iexact H1
    isplitl [H2]; · iexact H2
    isplitl [H3]; · iexact H3
    isplitl [H4]; · iexact H4
    isplitl [H5]; · iapply (hQ d5); iexact H5
    isplitl [H6]; · iapply (hK d6); iexact H6
    iapply (hV d7); iexact H7
  · iintro ⟨⟨⟨%s, %hs, Hs⟩, Hr, Hp⟩, Hw, ⟨%d0, H0⟩, ⟨%d1, H1⟩, ⟨%d2, H2⟩, ⟨%d3, H3⟩, ⟨%d4, H4⟩, ⟨%d5, H5⟩, ⟨%d6, H6⟩, ⟨%d7, H7⟩⟩
    have hrows := hs t rfl h
    subst hrows
    iapply (ln_body_later c Set.univ (grid0.coords t) (fun e => h ((first0_iff t).mp e)) _ _ _ _ _ _ _ _ _ _ _ _ _ _ _ _ _ _
      (blk0 V c 0 t) (blk0 V c 1 t) (blk0 V c 2 t) (blk0 V c 3 t) (blk0 V c 4 t) _ _ _ (rowsAt V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs]; · iexact Hs
    iintro ⟨H0, H1, H2, H3, H4, H5, H6, H7, Hs⟩
    isplitl [Hs Hr Hp]
    · isplitl [Hs]
      · iexists _; isplitr; swap; · iexact Hs
        ipureintro; exact fun u hu hu' => rowsAt_next V c t u hu hu'
      isplitl [Hr]; · iexact Hr
      iexact Hp
    isplitl [Hw]; · iexact Hw
    isplitl [H0]; · iexact H0
    isplitl [H1]; · iexact H1
    isplitl [H2]; · iexact H2
    isplitl [H3]; · iexact H3
    isplitl [H4]; · iexact H4
    isplitl [H5]; · iapply (hQ d5); iexact H5
    isplitl [H6]; · iapply (hK d6); iexact H6
    iapply (hV d7); iexact H7

/-- What the pipeline asks of the first call's body, at every point. -/
theorem ln_obligation (c : Dev nD) : BodyObligation (lnDat (F := F) V c) (defs₀ (F := F)) Variants.none () Set.univ := fun t => by
  have row : defs₀ (F := F) .tc cfg0.body (cfg0.bodyArgs t (cfg0.slots t)) = bodyAt0 t := by
    unfold defs₀; rw [Defs.onTc_tc]
  rw [bigSep_W0, bigSep_W0, row]
  exact triple_restated (ln_point V c t) rfl .rfl fun _ => .rfl

end Cert.KernelIdeal.Hand

end
-- ==== Proof.KernelIdealAttn.lean ====
/- The second call of the kernel, the attention of one head of one batch entry per grid point, worked off in four groups
   of 256 query rows. This module proves its body and packs the per-point data of its pipeline, for any entry
   contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the buffers as the second call finds them
variable (V : (c : Dev nD) → (b : Ref sig .tc) → Buf (Elt F) ((c : Thread nD τ).loc b))

/-- The part of window `w`'s array that grid point `t` works on. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The rectangles the body reads and writes: four groups of 256 rows, and the leading 512, 768 and all rows. -/

abbrev rows0 : Rect S1x1024x128 := Rect.unit (s := S1x1024x128) ![0, 0, 0] S1x256x128.size inb_S1x1024x128_S1x256x128_0_0_0
abbrev rows1 : Rect S1x1024x128 := Rect.unit (s := S1x1024x128) ![0, 256, 0] S1x256x128.size inb_S1x1024x128_S1x256x128_0_256_0
abbrev rows2 : Rect S1x1024x128 := Rect.unit (s := S1x1024x128) ![0, 512, 0] S1x256x128.size inb_S1x1024x128_S1x256x128_0_512_0
abbrev rows3 : Rect S1x1024x128 := Rect.unit (s := S1x1024x128) ![0, 768, 0] S1x256x128.size inb_S1x1024x128_S1x256x128_0_768_0
abbrev lead1 : Rect S1x1024x128 := Rect.unit (s := S1x1024x128) ![0, 0, 0] S1x512x128.size inb_S1x1024x128_S1x512x128_0_0_0
abbrev lead2 : Rect S1x1024x128 := Rect.unit (s := S1x1024x128) ![0, 0, 0] S1x768x128.size inb_S1x1024x128_S1x768x128_0_0_0
abbrev lead3 : Rect S1x1024x128 := Rect.unit (s := S1x1024x128) ![0, 0, 0] S1x1024x128.size inb_S1x1024x128_S1x1024x128_0_0_0

/-- The output rows of the first group, from its queries, the cached keys and values, the fresh keys and values. -/
def group0 (q : Vec F S1x256x128 .f32) (kc vc : Vec F S1x512x128 .f32) (k v : Vec F S1x256x128 .f32) : Vec F S1x256x128 .f32 :=
  k1_pay12 (k1_pay3 vc) (k1_pay5 v) (k1_pay9 kc q k) (k1_pay10 kc q k) (k1_pay11 kc q k)
/-- The output rows of the second group. -/
def group1 (q : Vec F S1x256x128 .f32) (kc vc : Vec F S1x512x128 .f32) (k v : Vec F S1x512x128 .f32) : Vec F S1x256x128 .f32 :=
  k1_pay20 (k1_pay3 vc) (k1_pay14 v) (k1_pay18 (k1_pay2 kc) q k) (k1_pay19 (k1_pay2 kc) q k)
/-- The output rows of the third group. -/
def group2 (q : Vec F S1x256x128 .f32) (kc vc : Vec F S1x512x128 .f32) (k v : Vec F S1x768x128 .f32) : Vec F S1x256x128 .f32 :=
  k1_pay26 (k1_pay3 vc) (k1_pay22 v) (k1_pay23 (k1_pay2 kc) q) (k1_pay24 q k) (k1_pay25 (k1_pay2 kc) q k)
/-- The output rows of the fourth group. -/
def group3 (q : Vec F S1x256x128 .f32) (kc vc : Vec F S1x512x128 .f32) (k v : Vec F S1x1024x128 .f32) : Vec F S1x256x128 .f32 :=
  k1_pay1 (k1_pay3 vc) (k1_pay28 v) (k1_pay29 (k1_pay2 kc) q) (k1_pay30 q k) (k1_pay31 (k1_pay2 kc) q)

/-- The four stores of the body as pieces of its output block, last first. -/
def attnPieces (q : Vec F S1x1024x128 .f32) (kc vc : Vec F S1x512x128 .f32) (k v : Vec F S1x1024x128 .f32) :
    List (View.Piece (Elt F) S1x1024x128 .f32) :=
  [⟨rows3, group3 (View.ld q rows3) kc vc (View.ld k lead3) (View.ld v lead3)⟩,
   ⟨rows2, group2 (View.ld q rows2) kc vc (View.ld k lead2) (View.ld v lead2)⟩,
   ⟨rows1, group1 (View.ld q rows1) kc vc (View.ld k lead1) (View.ld v lead1)⟩,
   ⟨rows0, group0 (View.ld q rows0) kc vc (View.ld k rows0) (View.ld v rows0)⟩]

/-- The four groups cover the output block. -/
theorem rows_cover (p3 p2 p1 p0 : Vec F S1x256x128 .f32) (y : S1x1024x128.Idx) :
    ∃ p ∈ ([⟨rows3, p3⟩, ⟨rows2, p2⟩, ⟨rows1, p1⟩, ⟨rows0, p0⟩] : List (View.Piece (Elt F) S1x1024x128 .f32)), y ∈ p.1.set :=
  View.cover_of_tiled [⟨rows3, p3⟩, ⟨rows2, p2⟩, ⟨rows1, p1⟩, ⟨rows0, p0⟩] S1x256x128.size (by rfl) y

/-- The data of the second pipeline: inputs keep their blocks, the output block is the four groups put together. -/
def attnDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => View.canon (attnPieces (blk1 V c 0 t) (blk1 V c 1 t) (blk1 V c 2 t) (blk1 V c 3 t) (blk1 V c 4 t))
  Φ _ := Pipeline.ΦA spec1 c
  q _ := fullShare
  owed _ := 0

/-- The second pipeline starts from the entry contents. -/
theorem attnDat_A (c : Dev nD) (w : Fin cfg1.W) : (attnDat V c).A w = V c (Pipeline.arrRef spec1 w) := by
  dsimp only [attnDat]

/-- The second pipeline's output block after a point. -/
theorem attnDat_out (c : Dev nD) (t : Fin cfg1.N) : (attnDat V c).after 5 t
    = View.canon (attnPieces (blk1 V c 0 t) (blk1 V c 1 t) (blk1 V c 2 t) (blk1 V c 3 t) (blk1 V c 4 t)) := by
  dsimp only [attnDat]

/-- Before each point the five inputs' staging buffers hold the point's blocks. -/
theorem attnDat_before (c : Dev nD) (t : Fin cfg1.N) :
    (∀ d, (attnDat V c).before 0 t d = blk1 V c 0 t) ∧ (∀ d, (attnDat V c).before 1 t d = blk1 V c 1 t)
      ∧ (∀ d, (attnDat V c).before 2 t d = blk1 V c 2 t) ∧ (∀ d, (attnDat V c).before 3 t d = blk1 V c 3 t)
      ∧ (∀ d, (attnDat V c).before 4 t d = blk1 V c 4 t) := by
  refine ⟨fun d => ?_, fun d => ?_, fun d => ?_, fun d => ?_, fun d => ?_⟩ <;>
  · refine ((attnDat V c).before_in_eq_fetched _ rfl (fun _ => rfl) (fun _ _ _ => rfl) (fun t => ?_) t d).trans ?_
    · dsimp only [attnDat]; unfold Dat.blockOf blk1; dsimp only
    · unfold Dat.fetched Dat.blockOf blk1; rw [attnDat_A]; rfl

set_option maxHeartbeats 4000000 in
/-- The attention's body on whole buffers: it leaves the inputs alone and fills the output group by group. -/
theorem attn_body (c : Dev nD) (E : Set ℕ) (i : grid1.Coords)
    (arg2 : Memref sig .tc .vmem S1x1024x128 .f32) (harg2 : arg2.IsWhole)
    (arg3 : Memref sig .tc .vmem S1x512x128 .f32) (harg3 : arg3.IsWhole)
    (arg4 : Memref sig .tc .vmem S1x512x128 .f32) (harg4 : arg4.IsWhole)
    (arg5 : Memref sig .tc .vmem S1x1024x128 .f32) (harg5 : arg5.IsWhole)
    (arg6 : Memref sig .tc .vmem S1x1024x128 .f32) (harg6 : arg6.IsWhole)
    (arg7 : Memref sig .tc .vmem S1x1024x128 .f32) (harg7 : arg7.IsWhole)
    (q : Vec F S1x1024x128 .f32) (kc vc : Vec F S1x512x128 .f32) (k v : Vec F S1x1024x128 .f32) (K : PUnit → sProp 𝕄) :
    iprop(owns (c : Thread nD τ) arg2 fullShare q ∗ owns (c : Thread nD τ) arg3 fullShare kc
        ∗ owns (c : Thread nD τ) arg4 fullShare vc ∗ owns (c : Thread nD τ) arg5 fullShare k
        ∗ owns (c : Thread nD τ) arg6 fullShare v ∗ (∃ d, owns (c : Thread nD τ) arg7 fullShare d)
        ∗ (iprop(owns (c : Thread nD τ) arg2 fullShare q ∗ owns (c : Thread nD τ) arg3 fullShare kc
            ∗ owns (c : Thread nD τ) arg4 fullShare vc ∗ owns (c : Thread nD τ) arg5 fullShare k
            ∗ owns (c : Thread nD τ) arg6 fullShare v
            ∗ owns (c : Thread nD τ) arg7 fullShare (View.canon (attnPieces q kc vc k v))) -∗ K ⟨⟩))
      ⊢ wp frame (wpE (defs₀ (F := F)) Variants.none c none) E
          (cc1_attn i arg2 harg2 arg3 harg3 arg4 harg4 arg5 harg5 arg6 harg6 arg7 harg7) K := by
  simp only [cc1_attn_eq_skeleton]; unfold cc1_attn_skel
  simp only [k1_part1_eq_skeleton, k1_part2_eq_skeleton, k1_part3_eq_skeleton, k1_part4_eq_skeleton]
  unfold owns
  iintro ⟨⟨%fq, %hq, Hq⟩, ⟨%fkc, %hkc, Hkc⟩, ⟨%fvc, %hvc, Hvc⟩, ⟨%fk, %hk, Hk⟩, ⟨%fv, %hv, Hv⟩, ⟨%d, %fo, -, Ho⟩, HK⟩
  subst hq hkc hvc hk hv
  sl_exec
  sl_step
  iapply HK
  isplitl [Hq]
  · iexists fq; isplitr; · ipureintro; rfl
    iexact Hq
  isplitl [Hkc]
  · iexists fkc; isplitr; · ipureintro; rfl
    iexact Hkc
  isplitl [Hvc]
  · iexists fvc; isplitr; · ipureintro; rfl
    iexact Hvc
  isplitl [Hk]
  · iexists fk; isplitr; · ipureintro; rfl
    iexact Hk
  isplitl [Hv]
  · iexists fv; isplitr; · ipureintro; rfl
    iexact Hv
  iexists _; isplitr
  swap; · iexact Ho
  ipureintro
  refine (View.read_writes_eq_canon _ _ _ (rows_cover _ _ _ _)).trans ?_
  have ekc := View.ld_unit_zero (S := S1x512x128) (Val := Elt F) (e := .f32) (off := ![0, 0, 0]) (by decide)
    inb_S1x512x128_S1x512x128_0_0_0 (arg3.view.read (Elt F) fkc)
  have evc := View.ld_unit_zero (S := S1x512x128) (Val := Elt F) (e := .f32) (off := ![0, 0, 0]) (by decide)
    inb_S1x512x128_S1x512x128_0_0_0 (arg4.view.read (Elt F) fvc)
  rw [← ekc, ← evc]
  rfl

/-- The body at a grid point, from the pipeline's data before the point to the data after it. -/
theorem attn_point (c : Dev nD) (t : Fin cfg1.N) :
    iprop((attnDat V c).Φ t.castSucc ∗ (attnDat V c).owesAt () t.castSucc
        ∗ (∃ d, owns (c : Thread nD τ) (st1_0 t) fullShare ((attnDat V c).before 0 t d))
        ∗ (∃ d, owns (c : Thread nD τ) (st1_1 t) fullShare ((attnDat V c).before 1 t d))
        ∗ (∃ d, owns (c : Thread nD τ) (st1_2 t) fullShare ((attnDat V c).before 2 t d))
        ∗ (∃ d, owns (c : Thread nD τ) (st1_3 t) fullShare ((attnDat V c).before 3 t d))
        ∗ (∃ d, owns (c : Thread nD τ) (st1_4 t) fullShare ((attnDat V c).before 4 t d))
        ∗ (∃ d, owns (c : Thread nD τ) (st1_5 t) fullShare ((attnDat V c).before 5 t d)))
      ⊢ wp frame (wpE (defs₀ (F := F)) Variants.none c none) Set.univ (bodyAt1 t) (fun _ =>
        iprop((attnDat V c).Φ t.succ ∗ (attnDat V c).owesAt () t.succ
        ∗ owns (c : Thread nD τ) (st1_0 t) fullShare ((attnDat V c).after 0 t)
        ∗ owns (c : Thread nD τ) (st1_1 t) fullShare ((attnDat V c).after 1 t)
        ∗ owns (c : Thread nD τ) (st1_2 t) fullShare ((attnDat V c).after 2 t)
        ∗ owns (c : Thread nD τ) (st1_3 t) fullShare ((attnDat V c).after 3 t)
        ∗ owns (c : Thread nD τ) (st1_4 t) fullShare ((attnDat V c).after 4 t)
        ∗ owns (c : Thread nD τ) (st1_5 t) fullShare ((attnDat V c).after 5 t))) := by
  obtain ⟨b0, b1, b2, b3, b4⟩ := attnDat_before V c t
  unfold bodyAt1
  simp only [b0, b1, b2, b3, b4]
  rw [show (attnDat V c).Φ t.succ = (attnDat V c).Φ t.castSucc from rfl,
    show (attnDat V c).owesAt () t.succ = (attnDat V c).owesAt () t.castSucc from rfl, attnDat_out,
    show (attnDat V c).after 0 t = blk1 V c 0 t by dsimp only [attnDat],
    show (attnDat V c).after 1 t = blk1 V c 1 t by dsimp only [attnDat],
    show (attnDat V c).after 2 t = blk1 V c 2 t by dsimp only [attnDat],
    show (attnDat V c).after 3 t = blk1 V c 3 t by dsimp only [attnDat],
    show (attnDat V c).after 4 t = blk1 V c 4 t by dsimp only [attnDat]]
  iintro ⟨HΦ, Hw, ⟨%d0, H0⟩, ⟨%d1, H1⟩, ⟨%d2, H2⟩, ⟨%d3, H3⟩, ⟨%d4, H4⟩, ⟨%d5, H5⟩⟩
  iapply (attn_body c Set.univ (grid1.coords t) _ _ _ _ _ _ _ _ _ _ _ _
    (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Hw]; · iexact Hw
  isplitl [H0]; · iexact H0
  isplitl [H1]; · iexact H1
  isplitl [H2]; · iexact H2
  isplitl [H3]; · iexact H3
  isplitl [H4]; · iexact H4
  iexact H5

/-- What the pipeline asks of the second call's body, at every point. -/
theorem attn_obligation (c : Dev nD) : BodyObligation (attnDat (F := F) V c) (defs₀ (F := F)) Variants.none () Set.univ := fun t => by
  have row : defs₀ (F := F) .tc cfg1.body (cfg1.bodyArgs t (cfg1.slots t)) = bodyAt1 t := by
    unfold defs₀; rw [Defs.onTc_tc]
  rw [bigSep_W1, bigSep_W1, row]
  exact triple_restated (attn_point V c t) rfl .rfl fun _ => .rfl

end Cert.KernelIdeal.Hand

end
-- ==== Proof.KernelIdealProj.lean ====
/- The third call of the kernel, the output projection: one product plus a row of biases per grid point. This module
   proves its body and packs the per-point data of its pipeline, for any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the buffers as the third call finds them
variable (V : (c : Dev nD) → (b : Ref sig .tc) → Buf (Elt F) ((c : Thread nD τ).loc b))

/-- The part of window `w`'s array that grid point `t` works on. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The data of the third pipeline: inputs keep their blocks, the output block is the product plus the biases. -/
def projDat (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => k2_pay1 (blk2 V c 0 t) (blk2 V c 1 t) (blk2 V c 2 t)
  Φ _ := Pipeline.ΦA spec2 c
  q _ := fullShare
  owed _ := 0

/-- The third pipeline starts from the entry contents. -/
theorem projDat_A (c : Dev nD) (w : Fin cfg2.W) : (projDat V c).A w = V c (Pipeline.arrRef spec2 w) := by
  dsimp only [projDat]

/-- The third pipeline's output block after a point. -/
theorem projDat_out (c : Dev nD) (t : Fin cfg2.N) :
    (projDat V c).after 3 t = k2_pay1 (blk2 V c 0 t) (blk2 V c 1 t) (blk2 V c 2 t) := by
  dsimp only [projDat]

/-- Before each point the three inputs' staging buffers hold the point's blocks. -/
theorem projDat_before (c : Dev nD) (t : Fin cfg2.N) :
    (∀ d, (projDat V c).before 0 t d = blk2 V c 0 t) ∧ (∀ d, (projDat V c).before 1 t d = blk2 V c 1 t)
      ∧ (∀ d, (projDat V c).before 2 t d = blk2 V c 2 t) := by
  refine ⟨fun d => ?_, fun d => ?_, fun d => ?_⟩ <;>
  · refine ((projDat V c).before_in_eq_fetched _ rfl (fun _ => rfl) (fun _ _ _ => rfl) (fun t => ?_) t d).trans ?_
    · dsimp only [projDat]; unfold Dat.blockOf blk2; dsimp only
    · unfold Dat.fetched Dat.blockOf blk2; rw [projDat_A]; rfl

set_option maxHeartbeats 1000000 in
/-- The projection's body on whole buffers: it leaves the inputs alone and fills the output. -/
theorem proj_body (c : Dev nD) (E : Set ℕ) (i : grid2.Coords)
    (arg2 : Memref sig .tc .vmem S1024x2048 .f32) (harg2 : arg2.IsWhole)
    (arg3 : Memref sig .tc .vmem S2048x1024 .f32) (harg3 : arg3.IsWhole)
    (arg4 : Memref sig .tc .vmem S1x1024 .f32) (harg4 : arg4.IsWhole)
    (arg5 : Memref sig .tc .vmem S1024x1024 .f32) (harg5 : arg5.IsWhole)
    (x : Vec F S1024x2048 .f32) (w : Vec F S2048x1024 .f32) (b : Vec F S1x1024 .f32) (K : PUnit → sProp 𝕄) :
    iprop(owns (c : Thread nD τ) arg2 fullShare x ∗ owns (c : Thread nD τ) arg3 fullShare w
        ∗ owns (c : Thread nD τ) arg4 fullShare b ∗ (∃ d, owns (c : Thread nD τ) arg5 fullShare d)
        ∗ (iprop(owns (c : Thread nD τ) arg2 fullShare x ∗ owns (c : Thread nD τ) arg3 fullShare w
            ∗ owns (c : Thread nD τ) arg4 fullShare b ∗ owns (c : Thread nD τ) arg5 fullShare (k2_pay1 x w b)) -∗ K ⟨⟩))
      ⊢ wp frame (wpE (defs₀ (F := F)) Variants.none c none) E (cc2_out_proj i arg2 harg2 arg3 harg3 arg4 harg4 arg5 harg5) K := by
  simp only [cc2_out_proj_eq_skeleton]; unfold cc2_out_proj_skel
  unfold owns
  iintro ⟨⟨%fx, %hx, Hx⟩, ⟨%fw, %hw, Hw⟩, ⟨%fb, %hb, Hb⟩, ⟨%d, %fo, -, Ho⟩, Hk⟩
  subst hx hw hb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  refine (View.read_writes_eq_canon _ _ _ (View.cover_of_tiled _ S1024x1024.size (by rfl))).trans ?_
  refine (View.canon_unit_zero (by decide) _ _).trans ?_
  exact congr (congr (congrArg k2_pay1 (View.ld_unit_zero (by decide) _ _)) (View.ld_unit_zero (by decide) _ _)) (View.ld_unit_zero (by decide) _ _)

/-- The body at a grid point, from the pipeline's data before the point to the data after it. -/
theorem proj_point (c : Dev nD) (t : Fin cfg2.N) :
    iprop((projDat V c).Φ t.castSucc ∗ (projDat V c).owesAt () t.castSucc
        ∗ (∃ d, owns (c : Thread nD τ) (st2_0 t) fullShare ((projDat V c).before 0 t d))
        ∗ (∃ d, owns (c : Thread nD τ) (st2_1 t) fullShare ((projDat V c).before 1 t d))
        ∗ (∃ d, owns (c : Thread nD τ) (st2_2 t) fullShare ((projDat V c).before 2 t d))
        ∗ (∃ d, owns (c : Thread nD τ) (st2_3 t) fullShare ((projDat V c).before 3 t d)))
      ⊢ wp frame (wpE (defs₀ (F := F)) Variants.none c none) Set.univ (bodyAt2 t) (fun _ =>
        iprop((projDat V c).Φ t.succ ∗ (projDat V c).owesAt () t.succ
        ∗ owns (c : Thread nD τ) (st2_0 t) fullShare ((projDat V c).after 0 t)
        ∗ owns (c : Thread nD τ) (st2_1 t) fullShare ((projDat V c).after 1 t)
        ∗ owns (c : Thread nD τ) (st2_2 t) fullShare ((projDat V c).after 2 t)
        ∗ owns (c : Thread nD τ) (st2_3 t) fullShare ((projDat V c).after 3 t))) := by
  obtain ⟨b0, b1, b2⟩ := projDat_before V c t
  unfold bodyAt2
  simp only [b0, b1, b2]
  rw [show (projDat V c).Φ t.succ = (projDat V c).Φ t.castSucc from rfl,
    show (projDat V c).owesAt () t.succ = (projDat V c).owesAt () t.castSucc from rfl, projDat_out,
    show (projDat V c).after 0 t = blk2 V c 0 t by dsimp only [projDat],
    show (projDat V c).after 1 t = blk2 V c 1 t by dsimp only [projDat],
    show (projDat V c).after 2 t = blk2 V c 2 t by dsimp only [projDat]]
  iintro ⟨HΦ, Hw, ⟨%d0, H0⟩, ⟨%d1, H1⟩, ⟨%d2, H2⟩, ⟨%d3, H3⟩⟩
  iapply (proj_body c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hw]; · iexact Hw
  isplitl [H0]; · iexact H0
  isplitl [H1]; · iexact H1
  isplitl [H2]; · iexact H2
  iexact H3

/-- What the pipeline asks of the third call's body, at every point. -/
theorem proj_obligation (c : Dev nD) : BodyObligation (projDat (F := F) V c) (defs₀ (F := F)) Variants.none () Set.univ := fun t => by
  have row : defs₀ (F := F) .tc cfg2.body (cfg2.bodyArgs t (cfg2.slots t)) = bodyAt2 t := by
    unfold defs₀; rw [Defs.onTc_tc]
  rw [bigSep_W2, bigSep_W2, row]
  exact triple_restated (proj_point V c t) rfl .rfl fun _ => .rfl

end Cert.KernelIdeal.Hand

end
-- ==== Proof.KernelIdealRun.lean ====
/- The whole program: what every buffer holds between its host stretches and its three calls, each call as a segment
   of the run, and the run itself with its result and its arguments. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.KernelIdealLn
public import proofs.«01_k».proof.Proof.KernelIdealAttn
public import proofs.«01_k».proof.Proof.KernelIdealProj
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding V0 V1 V2 V3 V4 V5 V6 V1_of V2_of V3_of V4_of V5_of V6_of segs adm

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's arguments. -/
abbrev inputs : List (Ref sig .tc) :=
  [main_arg0, main_arg1, main_arg2, main_arg3, main_arg4, main_arg5, main_arg6, main_arg7, main_arg8, main_arg9, main_arg10, main_arg11]

/-! ## The buffers between the segments -/

/-- The buffers at launch. -/
abbrev mem0 : Dev nD → Valuation τ sig (Elt F) := fun c b => m ((c : Dev nD), b)

/-- The buffers after host stretch 0, where call 0 starts. -/
abbrev mem1 : Dev nD → Valuation τ sig (Elt F) := fun c => StableHlo.after hostOps0 (mem0 m c)
/-- A buffer the stretch does not write is as before it. -/
theorem mem1_of (c : Dev nD) (r : Ref sig .tc) (h : r ∉ hostOps0_W) : mem1 m c (Proc.devRef .tc r) = mem0 m c (Proc.devRef .tc r) :=
  StableHlo.after_of_writes_sub hostOps0 _ hostOps0_writes h
/-- The same contents as the call reads them. -/
abbrev buf1 : (c : Dev nD) → (b : Ref sig .tc) → Buf (Elt F) ((c : Thread nD τ).loc b) := fun c b => mem1 m c b
/-- The buffers where call 0 ends: its arrays as its pipeline leaves them, all others as before. -/
def mem2 (c : Dev nD) : Valuation τ sig (Elt F) :=
  Pipeline.withArrays spec0 c (mem1 m c) fun w => (lnDat (buf1 m) c).arrAt w cfg0.N
/-- An array of the call. -/
theorem mem2_arr (c : Dev nD) (w : Fin cfg0.W) :
    mem2 m c (Proc.devRef .tc (Pipeline.arrRef spec0 w)) = (lnDat (buf1 m) c).arrAt w cfg0.N := by
  unfold mem2; exact Pipeline.withArrays_arr spec0 launch0.win.arr_inj c _ _ w
/-- A buffer that is no array of the call. -/
theorem mem2_off (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
/-- A buffer that is no output of the call is as before it. -/
theorem mem2_of (c : Dev nD) (r : Ref sig .tc) (h : ∀ w : Fin cfg0.W, Pipeline.arrRef spec0 w = r → (cfg0.win w).isOut = false) :
    mem2 m c (Proc.devRef .tc r) = mem1 m c (Proc.devRef .tc r) := by
  rcases Classical.em (∃ w : Fin cfg0.W, Pipeline.arrRef spec0 w = r) with ⟨w, rfl⟩ | hw
  · rw [mem2_arr, (lnDat (buf1 m) c).arrAt_in w (h w rfl), lnDat_A]
  · exact mem2_off m c r (not_exists.mp hw)
/-- The contents where the call ends, as a call reads them. -/
abbrev buf2 : (c : Dev nD) → (b : Ref sig .tc) → Buf (Elt F) ((c : Thread nD τ).loc b) := fun c b => mem2 m c b

/-- The buffers after host stretch 1, where call 1 starts. -/
abbrev mem3 : Dev nD → Valuation τ sig (Elt F) := fun c => StableHlo.after hostOps1 (mem2 m c)
/-- A buffer the stretch does not write is as before it. -/
theorem mem3_of (c : Dev nD) (r : Ref sig .tc) (h : r ∉ hostOps1_W) : mem3 m c (Proc.devRef .tc r) = mem2 m c (Proc.devRef .tc r) :=
  StableHlo.after_of_writes_sub hostOps1 _ hostOps1_writes h
/-- The same contents as the call reads them. -/
abbrev buf3 : (c : Dev nD) → (b : Ref sig .tc) → Buf (Elt F) ((c : Thread nD τ).loc b) := fun c b => mem3 m c b
/-- The buffers where call 1 ends: its arrays as its pipeline leaves them, all others as before. -/
def mem4 (c : Dev nD) : Valuation τ sig (Elt F) :=
  Pipeline.withArrays spec1 c (mem3 m c) fun w => (attnDat (buf3 m) c).arrAt w cfg1.N
/-- An array of the call. -/
theorem mem4_arr (c : Dev nD) (w : Fin cfg1.W) :
    mem4 m c (Proc.devRef .tc (Pipeline.arrRef spec1 w)) = (attnDat (buf3 m) c).arrAt w cfg1.N := by
  unfold mem4; exact Pipeline.withArrays_arr spec1 launch1.win.arr_inj c _ _ w
/-- A buffer that is no array of the call. -/
theorem mem4_off (c : Dev nD) (b : Ref sig .tc) (hb : ∀ w, Pipeline.arrRef spec1 w ≠ b) :
    mem4 m c (Proc.devRef .tc b) = mem3 m c (Proc.devRef .tc b) := by
  unfold mem4; exact Pipeline.withArrays_of_ne spec1 c _ _ b hb
/-- A buffer that is no output of the call is as before it. -/
theorem mem4_of (c : Dev nD) (r : Ref sig .tc) (h : ∀ w : Fin cfg1.W, Pipeline.arrRef spec1 w = r → (cfg1.win w).isOut = false) :
    mem4 m c (Proc.devRef .tc r) = mem3 m c (Proc.devRef .tc r) := by
  rcases Classical.em (∃ w : Fin cfg1.W, Pipeline.arrRef spec1 w = r) with ⟨w, rfl⟩ | hw
  · rw [mem4_arr, (attnDat (buf3 m) c).arrAt_in w (h w rfl), attnDat_A]
  · exact mem4_off m c r (not_exists.mp hw)
/-- The contents where the call ends, as a call reads them. -/
abbrev buf4 : (c : Dev nD) → (b : Ref sig .tc) → Buf (Elt F) ((c : Thread nD τ).loc b) := fun c b => mem4 m c b

/-- The buffers after host stretch 2, where call 2 starts. -/
abbrev mem5 : Dev nD → Valuation τ sig (Elt F) := fun c => StableHlo.after hostOps2 (mem4 m c)
/-- A buffer the stretch does not write is as before it. -/
theorem mem5_of (c : Dev nD) (r : Ref sig .tc) (h : r ∉ hostOps2_W) : mem5 m c (Proc.devRef .tc r) = mem4 m c (Proc.devRef .tc r) :=
  StableHlo.after_of_writes_sub hostOps2 _ hostOps2_writes h
/-- The same contents as the call reads them. -/
abbrev buf5 : (c : Dev nD) → (b : Ref sig .tc) → Buf (Elt F) ((c : Thread nD τ).loc b) := fun c b => mem5 m c b
/-- The buffers where call 2 ends: its arrays as its pipeline leaves them, all others as before. -/
def mem6 (c : Dev nD) : Valuation τ sig (Elt F) :=
  Pipeline.withArrays spec2 c (mem5 m c) fun w => (projDat (buf5 m) c).arrAt w cfg2.N
/-- An array of the call. -/
theorem mem6_arr (c : Dev nD) (w : Fin cfg2.W) :
    mem6 m c (Proc.devRef .tc (Pipeline.arrRef spec2 w)) = (projDat (buf5 m) c).arrAt w cfg2.N := by
  unfold mem6; exact Pipeline.withArrays_arr spec2 launch2.win.arr_inj c _ _ w
/-- A buffer that is no array of the call. -/
theorem mem6_off (c : Dev nD) (b : Ref sig .tc) (hb : ∀ w, Pipeline.arrRef spec2 w ≠ b) :
    mem6 m c (Proc.devRef .tc b) = mem5 m c (Proc.devRef .tc b) := by
  unfold mem6; exact Pipeline.withArrays_of_ne spec2 c _ _ b hb
/-- A buffer that is no output of the call is as before it. -/
theorem mem6_of (c : Dev nD) (r : Ref sig .tc) (h : ∀ w : Fin cfg2.W, Pipeline.arrRef spec2 w = r → (cfg2.win w).isOut = false) :
    mem6 m c (Proc.devRef .tc r) = mem5 m c (Proc.devRef .tc r) := by
  rcases Classical.em (∃ w : Fin cfg2.W, Pipeline.arrRef spec2 w = r) with ⟨w, rfl⟩ | hw
  · rw [mem6_arr, (projDat (buf5 m) c).arrAt_in w (h w rfl), projDat_A]
  · exact mem6_off m c r (not_exists.mp hw)
/-- The contents where the call ends, as a call reads them. -/
abbrev buf6 : (c : Dev nD) → (b : Ref sig .tc) → Buf (Elt F) ((c : Thread nD τ).loc b) := fun c b => mem6 m c b

/-- No argument is written by a host stretch or is an output of a call. -/
theorem inputs_kept : ∀ a ∈ inputs, (a ∉ hostOps0_W ∧ a ∉ hostOps1_W ∧ a ∉ hostOps2_W)
    ∧ (∀ w : Fin cfg0.W, Pipeline.arrRef spec0 w = a → (cfg0.win w).isOut = false)
    ∧ (∀ w : Fin cfg1.W, Pipeline.arrRef spec1 w = a → (cfg1.win w).isOut = false)
    ∧ (∀ w : Fin cfg2.W, Pipeline.arrRef spec2 w = a → (cfg2.win w).isOut = false) :=
  ListAll.forall_mem_of_all_decide (by decide +kernel)

/-- Every argument ends as launched. -/
theorem mem6_input (c : Dev nD) (a : Ref sig .tc) (ha : a ∈ inputs) : mem6 m c (Proc.devRef .tc a) = m ((c : Thread nD τ).loc a) := by
  obtain ⟨⟨h0, h1, h2⟩, r0, r1, r2⟩ := inputs_kept a ha
  rw [mem6_of m c a r2, mem5_of m c a h2, mem4_of m c a r1, mem3_of m c a h1, mem2_of m c a r0, mem1_of m c a h0]

/-! ## The thread state between the segments -/

/-- No call has a prefetched table. -/
abbrev noTables : (p : Fin 3) → (pcfgs (F := F) p).Adm := fun p => (cfgs p).toPCfg_adm
/-- Each call's data at the contents it starts from. -/
def dats : (p : Fin 3) → (c : Dev nD) → Dat τ (Elt F) Unit ℕ (UR sig nD τ) ℕ (Pipeline.pin (pcfgs (F := F)) noTables p) c
  | ⟨0, _⟩ => fun c => lnDat (buf1 m) c
  | ⟨1, _⟩ => fun c => attnDat (buf3 m) c
  | ⟨2, _⟩ => fun c => projDat (buf5 m) c
/-- No cell is assigned a level. -/
abbrev noLevels : GSem nD τ sig → Finset Unit := fun _ => ∅
/-- The level function, never consulted. -/
abbrev levels : GSem nD τ sig → Unit → ℕ := fun _ _ => 0
/-- Beside the buffers: the generator's register, and a core that owes nothing. -/
abbrev rest (c : Dev nD) : sProp 𝕄 := iprop((∃ r, prngReg c r) ∗ ∃ W, owes (c : Thread nD τ) (0 : CellTallies nD τ sig Unit) W)
/-- A host stretch as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- A reference outside every call's scope is among those the thread holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, beside owing nothing. -/
abbrev atEnd (c : Dev nD) : sProp 𝕄 := iprop(StableHlo.held (c : Thread nD τ) (Pipeline.ucRefs τ sig) (mem6 m c) ∗ ∃ r, prngReg c r)

/-! ## The calls as segments -/

set_option backward.isDefEq.respectTransparency.types false in
/-- Call 0 as a segment: its arrays are taken out of the buffers at entry and put back at exit. -/
def call0 : Pipeline.RegionSeg (pcfgs (F := F)) noTables (dats m) () defs₀ Variants.none noLevels levels 0 where
  win := launch0.win.to₀
  block_pos := launch0.block_pos
  stage_whole := launch0.stage_whole
  K := PEmpty
  osem k := k.elim
  ho := Pipeline.OwnSemFacts.none _
  hbody c := (ln_obligation (buf1 m) c).loose
  hwaits := Pipeline.hwaits_of_owed_zero _ _ _ _ noLevels levels 0 fun _ _ => rfl
  pre c := iprop(StableHlo.held (c : Thread nD τ) (Pipeline.ucRefs τ sig) (mem1 m c) ∗ rest c)
  post c := iprop(StableHlo.held (c : Thread nD τ) (Pipeline.ucRefs τ sig) (mem2 m c) ∗ rest c)
  X c := iprop(∃ r, prngReg c r)
  Y c := iprop(∃ r, prngReg c r)
  Z c := Pipeline.unscopedRest (Ix := Unit) (Name := ℕ) (U := UR sig nD τ) (Lvl := ℕ) spec0 c (buf1 m c)
  hentry c := by
    rw [Pipeline.ownSems0_none]
    have hsplit := Pipeline.arrays_of_unscopedBufs (p := 0) (pcfgs (F := F)) noTables (dats m) launch0.win launch0.arr_whole c
      ((dats m 0 c).share_full fun _ => rfl) (buf1 m c) (lnDat_A (buf1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = lnInv (buf1 m) c 0 from rfl]
    iintro ⟨Hp, -, Hr⟩
    iapply (lnInv_start (buf1 m) c)
    unfold Pipeline.ΦA
    isplitl [Hr]; · iexact Hr
    iexact Hp
  hout c := by
    rw [Pipeline.ownSems0_none, show (dats m 0 c).Φ (Fin.last _) = lnInv (buf1 m) c cfg0.N from rfl]
    iintro Hi
    ihave H := (lnInv_end (buf1 m) c cfg0.N) $$ Hi
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (dats m) ((dats m 0 c).share_full fun _ => rfl)
      (buf1 m c) (buf2 m c) ((dats m 0 c).arrAt · cfg0.N) (fun w => (mem2_arr m c w).symm)
      (fun b hb => mem2_off m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: its arrays are taken out of the buffers at entry and put back at exit. -/
def call1 : Pipeline.RegionSeg (pcfgs (F := F)) noTables (dats m) () defs₀ Variants.none noLevels levels 1 where
  win := launch1.win.to₀
  block_pos := launch1.block_pos
  stage_whole := launch1.stage_whole
  K := PEmpty
  osem k := k.elim
  ho := Pipeline.OwnSemFacts.none _
  hbody c := (attn_obligation (buf3 m) c).loose
  hwaits := Pipeline.hwaits_of_owed_zero _ _ _ _ noLevels levels 1 fun _ _ => rfl
  pre c := iprop(StableHlo.held (c : Thread nD τ) (Pipeline.ucRefs τ sig) (mem3 m c) ∗ rest c)
  post c := iprop(StableHlo.held (c : Thread nD τ) (Pipeline.ucRefs τ sig) (mem4 m c) ∗ rest c)
  X c := iprop(∃ r, prngReg c r)
  Y c := iprop(∃ r, prngReg c r)
  Z c := Pipeline.unscopedRest (Ix := Unit) (Name := ℕ) (U := UR sig nD τ) (Lvl := ℕ) spec1 c (buf3 m c)
  hentry c := by
    rw [Pipeline.ownSems0_none]
    have hsplit := Pipeline.arrays_of_unscopedBufs (p := 1) (pcfgs (F := F)) noTables (dats m) launch1.win launch1.arr_whole c
      ((dats m 1 c).share_full fun _ => rfl) (buf3 m c) (attnDat_A (buf3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 1 c).Φ 0 = Pipeline.ΦA spec1 c from rfl]; unfold Pipeline.ΦA
    iintro ⟨Hp, -, Hr⟩
    isplitl [Hr]; · iexact Hr
    iexact Hp
  hout c := by
    rw [Pipeline.ownSems0_none, show (dats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (dats m) ((dats m 1 c).share_full fun _ => rfl)
      (buf3 m c) (buf4 m c) ((dats m 1 c).arrAt · cfg1.N) (fun w => (mem4_arr m c w).symm)
      (fun b hb => mem4_off m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: its arrays are taken out of the buffers at entry and put back at exit. -/
def call2 : Pipeline.RegionSeg (pcfgs (F := F)) noTables (dats m) () defs₀ Variants.none noLevels levels 2 where
  win := launch2.win.to₀
  block_pos := launch2.block_pos
  stage_whole := launch2.stage_whole
  K := PEmpty
  osem k := k.elim
  ho := Pipeline.OwnSemFacts.none _
  hbody c := (proj_obligation (buf5 m) c).loose
  hwaits := Pipeline.hwaits_of_owed_zero _ _ _ _ noLevels levels 2 fun _ _ => rfl
  pre c := iprop(StableHlo.held (c : Thread nD τ) (Pipeline.ucRefs τ sig) (mem5 m c) ∗ rest c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (buf5 m c)
  hentry c := by
    rw [Pipeline.ownSems0_none]
    have hsplit := Pipeline.arrays_of_unscopedBufs (p := 2) (pcfgs (F := F)) noTables (dats m) launch2.win launch2.arr_whole c
      ((dats m 2 c).share_full fun _ => rfl) (buf5 m c) (projDat_A (buf5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 2 c).Φ 0 = Pipeline.ΦA spec2 c from rfl]; unfold Pipeline.ΦA
    iintro ⟨Hp, -, Hr⟩
    isplitl [Hr]; · iexact Hr
    iexact Hp
  hout c := by
    rw [Pipeline.ownSems0_none, show (dats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (dats m) ((dats m 2 c).share_full fun _ => rfl)
      (buf5 m c) (buf6 m c) ((dats m 2 c).arrAt · cfg2.N) (fun w => (mem6_arr m c w).symm)
      (fun b hb => mem6_off m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's six segments, in order. -/
abbrev pieces : List (Pipeline.Seg (pcfgs (F := F)) noTables (dats m) () defs₀ Variants.none noLevels levels) :=
  [ .host (hostSeg hostOps0 hostOps0_sub hostOps0_fresh (mem0 m)),
    .region (call0 m),
    .host (hostSeg hostOps1 hostOps1_sub hostOps1_fresh (mem2 m)),
    .region (call1 m),
    .host (hostSeg hostOps2 hostOps2_sub hostOps2_fresh (mem4 m)),
    .region (call2 m) ]
/-- The program is the run of its segments. -/
theorem main_pieces (c : Dev nD) : main (F := F) c = Pipeline.Seg.run (pieces m) := (main_chain c).trans (by chain_rfl)

/-- Every semaphore belongs to a call. -/
theorem sems_scoped : ∀ sm : SemLoc sig, sm.isScoped .tc = true := by decide

set_option backward.isDefEq.respectTransparency.types false in
/-- Every run of the program ends with the result at what the last call leaves, every argument as launched, and every
    counter at zero. -/
theorem run : θ_run defs (onTc (τ := τ) (main (F := F))) ⟨m, fun _ => 0, ρ⟩ (fun r => (∀ c : Dev nD,
      r.2.mem ((c.tc : Thread nD τ).loc main_v12) = (projDat (buf5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) noTables (dats m) () cellOf_inj emb₁ defs₀ Variants.none noLevels levels m ρ main (pieces m)
    (fun c Q => by rw [main_pieces m c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ rest c)) (Tₙ := atEnd m)
    (hch := ⟨fun _ => .rfl, fun _ => .rfl, fun _ => .rfl, fun _ => .rfl, fun _ => .rfl, fun _ => .rfl, fun _ => .rfl⟩)
    (hinit := by
      refine Pipeline.initEach noLevels levels fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem6 m c b)
    (hfin := fun c s' => by
      iintro ⟨⟨Hh, -⟩, HSI⟩
      unfold StableHlo.held
      imodintro
      iapply (pointsTo_read_all (Pipeline.ucRefs τ sig) (fun b => (((c : Thread nD τ)).1, b)) (mem6 m c) s')
      isplitl [Hh] <;> iassumption)
    (hQ := fun s h hz => ⟨(fun c =>
      ⟨(h c _ (mem_held main_v12 (by decide))).trans (mem6_arr m c 3),
       (h c _ (mem_held main_arg0 (by decide))).trans (mem6_input m c main_arg0 (by decide)),
       (h c _ (mem_held main_arg1 (by decide))).trans (mem6_input m c main_arg1 (by decide)),
       (h c _ (mem_held main_arg2 (by decide))).trans (mem6_input m c main_arg2 (by decide)),
       (h c _ (mem_held main_arg3 (by decide))).trans (mem6_input m c main_arg3 (by decide)),
       (h c _ (mem_held main_arg4 (by decide))).trans (mem6_input m c main_arg4 (by decide)),
       (h c _ (mem_held main_arg5 (by decide))).trans (mem6_input m c main_arg5 (by decide)),
       (h c _ (mem_held main_arg6 (by decide))).trans (mem6_input m c main_arg6 (by decide)),
       (h c _ (mem_held main_arg7 (by decide))).trans (mem6_input m c main_arg7 (by decide)),
       (h c _ (mem_held main_arg8 (by decide))).trans (mem6_input m c main_arg8 (by decide)),
       (h c _ (mem_held main_arg9 (by decide))).trans (mem6_input m c main_arg9 (by decide)),
       (h c _ (mem_held main_arg10 (by decide))).trans (mem6_input m c main_arg10 (by decide)),
       (h c _ (mem_held main_arg11 (by decide))).trans (mem6_input m c main_arg11 (by decide))⟩), funext fun g => hz g (.inr (sems_scoped g.2))⟩)

end Cert.KernelIdeal.Hand

end
-- ==== Proof.Frames.lean ====
/- The claims that say nothing of values: the kernel at bits, its idealization and the reference each run, leave their
   arguments as they were and every counter at zero; and the one constant the idealization names has its value. -/
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel at bits runs and keeps its arguments. -/
theorem kernel_frame : Cert.quiescent_Kernel := fun m ρ _ =>
  (θ_run Cert.Kernel.defs _ _).mono (fun _ h => ⟨fun c => (h.1 c).2, h.2⟩) (Cert.Kernel.Hand.run m ρ)

/-- The idealized kernel runs and keeps its arguments. -/
theorem ideal_frame : Cert.quiescent_KernelIdeal := fun m ρ _ =>
  (θ_run Cert.KernelIdeal.defs _ _).mono (fun _ h => ⟨fun c => (h.1 c).2, h.2⟩) (Cert.KernelIdeal.Hand.run m ρ)

/-- The reference runs and keeps its arguments. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is named, and its value is minus infinity. -/
theorem mask_named : Cert.preserves_Kernel_KernelIdeal :=
  IdealRules.named_const.statement Cert.KernelIdeal.κ "mask" .f32 0xCE6E6B28#32 ⊥ rfl

end Cert.Proof

end
-- ==== Proof.Softmax.lean ====
/- Facts of the extended reals that the value claim rests on: which operations keep a number finite, a scaling moved
   through a sum, and a softmax whose masked keys are left out. -/
module

public import Idealize.ShloMosaic.Lib.Pointwise

@[expose] public section

noncomputable section

namespace Cert.Math

open Idealize.ShloMosaic

/-- The extended real is a real number. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals, taken among the reals or among the extended reals. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- A finite sum of reals is real. -/
theorem IsReal.sum {ι : Type} [Fintype ι] {f : ι → EReal} (h : ∀ i, IsReal (f i)) : IsReal (∑ i, f i) := by
  choose r hr using h
  refine ⟨∑ i, r i, ?_⟩
  rw [coe_sum]
  exact Finset.sum_congr rfl fun i _ => hr i

/-- A finite sum of extended reals times a nonnegative real: the factor goes into the sum. -/
theorem sum_mul_coe {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 h1, ih]

/-- A scaled dot product: the scale on every left factor, or on the whole. -/
theorem scaled_dot {ι : Type} [Fintype ι] (q k : ι → EReal) {c : EReal} (h0 : 0 ≤ c) (h1 : c ≠ ⊤) :
    (∑ i, q i * c * k i) = (∑ i, q i * k i) * c := by
  rw [sum_mul_coe _ _ h0 h1]
  exact Finset.sum_congr rfl fun i _ => mul_right_comm _ _ _

/-- The largest of finitely many values, minus infinity for none. -/
def most {ι : Type} [Fintype ι] (f : ι → EReal) : EReal := Finset.univ.fold max ⊥ f

/-- The largest value bounds them all, and is the least bound. -/
theorem most_le {ι : Type} [Fintype ι] {f : ι → EReal} {c : EReal} : most f ≤ c ↔ ∀ i, f i ≤ c := by
  simp [most, Finset.fold_max_le]

/-- No value exceeds the largest. -/
theorem le_most {ι : Type} [Fintype ι] (f : ι → EReal) (i : ι) : f i ≤ most f := most_le.mp le_rfl i

/-- Finitely many values below plus infinity, one of them above minus infinity: their largest is real. -/
theorem most_real {ι : Type} [Fintype ι] {f : ι → EReal} (ht : ∀ i, f i ≠ ⊤) {a : ι} (ha : f a ≠ ⊥) : IsReal (most f) := by
  have h1 : most f ≠ ⊤ := by
    have h : most f < ⊤ := by
      simp only [most, Finset.fold_max_lt]
      exact ⟨bot_lt_top, fun i _ => lt_top_iff_ne_top.mpr (ht i)⟩
    exact h.ne
  have h2 : most f ≠ ⊥ := fun h => ha (le_bot_iff.mp (h ▸ most_le.mp le_rfl a))
  exact ⟨(most f).toReal, (EReal.coe_toReal h1 h2).symm⟩

/-- The largest over all keys is the largest over the two parts that are kept, when the other keys are masked. -/
theorem most_parts {α β ι : Type} [Fintype α] [Fintype β] [Fintype ι] (e : α ⊕ β → ι) (S : ι → EReal)
    (hout : ∀ i, i ∉ Set.range e → S i = ⊥) :
    max ⊥ (most S) = max (most fun a => S (e (.inl a))) (most fun b => S (e (.inr b))) := by
  rw [max_eq_right bot_le]
  apply le_antisymm
  · refine most_le.mpr fun i => ?_
    by_cases h : i ∈ Set.range e
    · obtain ⟨x, rfl⟩ := h
      rcases x with a | b
      · exact le_max_of_le_left (le_most (fun a => S (e (.inl a))) a)
      · exact le_max_of_le_right (le_most (fun b => S (e (.inr b))) b)
    · rw [hout i h]; exact bot_le
  · exact max_le (most_le.mpr fun a => most_le.mp le_rfl _) (most_le.mpr fun b => most_le.mp le_rfl _)

/-- The exponential of a score less the largest is a nonnegative real, and zero for a masked score. -/
theorem exp_sub_real {s : EReal} (hs : s ≠ ⊤) (m : ℝ) :
    ∃ r : ℝ, 0 ≤ r ∧ Ideal.exp (s - (m : EReal)) = (r : EReal) ∧ (s = ⊥ → r = 0) ∧ (s ≠ ⊥ → 0 < r) := by
  induction s using EReal.rec with
  | bot => exact ⟨0, le_rfl, by rw [EReal.bot_sub]; rfl, fun _ => rfl, fun h => absurd rfl h⟩
  | top => exact absurd rfl hs
  | coe x =>
    exact ⟨Real.exp (x - m), (Real.exp_pos _).le, by rw [← EReal.coe_sub]; rfl,
      fun h => absurd h (EReal.coe_ne_bot x), fun _ => Real.exp_pos _⟩

/-- A sum over all keys of terms that vanish off two disjoint parts is the sum over the parts. -/
theorem sum_parts {α β ι : Type} [Fintype α] [Fintype β] [Fintype ι] (e : α ⊕ β → ι) (he : Function.Injective e)
    (f : ι → EReal) (hout : ∀ i, i ∉ Set.range e → f i = 0) :
    ∑ i, f i = (∑ a, f (e (.inl a))) + ∑ b, f (e (.inr b)) := by
  rw [← Fintype.sum_sum_type fun x => f (e x)]
  exact (Fintype.sum_of_injective e he (fun x => f (e x)) f hout fun _ => rfl).symm

/-- The softmax average of values. All keys with their weights normalised one by one, masked keys at minus infinity, is
    the two kept parts with their weighted sums divided once by the sum of the weights. -/
theorem softmax_parts {α β ι : Type} [Fintype α] [Fintype β] [Fintype ι] (e : α ⊕ β → ι) (he : Function.Injective e)
    (S V : ι → EReal) (htop : ∀ i, S i ≠ ⊤) (a₀ : α) (ha₀ : S (e (.inl a₀)) ≠ ⊥)
    (hout : ∀ i, i ∉ Set.range e → S i = ⊥) :
    Ideal.div
      ((∑ a, Ideal.exp (S (e (.inl a)) - max (most fun a => S (e (.inl a))) (most fun b => S (e (.inr b)))) * V (e (.inl a)))
        + ∑ b, Ideal.exp (S (e (.inr b)) - max (most fun a => S (e (.inl a))) (most fun b => S (e (.inr b)))) * V (e (.inr b)))
      ((∑ a, Ideal.exp (S (e (.inl a)) - max (most fun a => S (e (.inl a))) (most fun b => S (e (.inr b)))))
        + ∑ b, Ideal.exp (S (e (.inr b)) - max (most fun a => S (e (.inl a))) (most fun b => S (e (.inr b)))))
    = ∑ i, V i * Ideal.div (Ideal.exp (S i - max ⊥ (most S))) (∑ j, Ideal.exp (S j - max ⊥ (most S))) := by
  rw [← most_parts e S hout]
  obtain ⟨m, hm⟩ := most_real htop ha₀
  rw [max_eq_right bot_le, hm]
  choose r hr0 hr hrb hrp using fun i => exp_sub_real (htop i) m
  have hz : ∀ i, i ∉ Set.range e → (r i : EReal) = 0 := fun i hi => by rw [hrb i (hout i hi)]; rfl
  simp only [hr]
  rw [← sum_parts e he (fun i => (r i : EReal)) hz,
    ← sum_parts e he (fun i => (r i : EReal) * V i) (fun i hi => by simp only [hz i hi, zero_mul]), ← coe_sum]
  have hD : 0 < ∑ i, r i :=
    Finset.sum_pos' (fun i _ => hr0 i) ⟨e (.inl a₀), Finset.mem_univ _, hrp _ ha₀⟩
  have hD' : ((∑ i, r i : ℝ) : EReal) ≠ 0 := by exact_mod_cast hD.ne'
  simp only [Ideal.div, if_neg hD']
  rw [← EReal.coe_inv, sum_mul_coe _ _ (by exact_mod_cast (inv_pos.mpr hD).le) (EReal.coe_ne_top _)]
  exact Finset.sum_congr rfl fun i _ => by rw [mul_comm (r i : EReal), mul_assoc]

end Cert.Math
-- ==== Proof.Spec.lean ====
/- The function both programs compute, over plain index functions: the normalised row, its projections, the attention of
   one query over the cached and the fresh keys, and the attention with the masked fresh keys left out. -/
module

public import proofs.«01_k».proof.Proof.Softmax

@[expose] public section

noncomputable section

namespace Cert.Math

open Idealize.ShloMosaic

/-- The pattern of minus infinity. -/
theorem ofBits_bot : Ideal.ofBits .f32 4286578688#32 = ⊥ := by
  simp [Ideal.ofBits, Ideal.ieee]

/-- The pattern of plus infinity. -/
theorem ofBits_top : Ideal.ofBits .f32 2139095040#32 = ⊤ := by
  simp [Ideal.ofBits, Ideal.ieee]

/-- A select on a signed comparison of two small words is a case split on the numbers. -/
theorem select_sle (a b : ℕ) (x y : EReal) (ha : a < 2 ^ 31) (hb : b < 2 ^ 31) :
    Scalar.select (IntOp.cmpi .sle (BitVec.ofNat 32 a) (BitVec.ofNat 32 b)) x y = if a ≤ b then x else y := by
  have e : BitVec.sle (BitVec.ofNat 32 a) (BitVec.ofNat 32 b) = decide (a ≤ b) := by
    rw [BitVec.sle_eq_decide, BitVec.toInt_eq_toNat_of_lt (by simp; omega), BitVec.toInt_eq_toNat_of_lt (by simp; omega)]
    simp only [BitVec.toNat_ofNat, Nat.cast_le]
    rw [Nat.mod_eq_of_lt (by omega), Nat.mod_eq_of_lt (by omega)]
  by_cases h : a ≤ b <;> simp [Scalar.select, IntOp.cmpi, e, h]

/-- The row's mean. -/
def meanOf (x : Fin 2048 → EReal) : EReal := Ideal.div (∑ k, x k) (Ideal.ofBits .f32 1157627904#32)

/-- One entry of a row after layer normalisation: centred, divided by the deviation, then scaled and shifted. -/
def normAt (x w b : Fin 2048 → EReal) (k : Fin 2048) : EReal :=
  (x k - meanOf x)
      * Ideal.rsqrt (meanOf (fun i => (x i - meanOf x) * (x i - meanOf x)) + Ideal.ofBits .f32 925353388#32)
    * w k + b k

/-- One entry of the projection of the normalised rows to queries, keys and values. -/
def qkvAt (X : Fin 4096 → Fin 2048 → EReal) (w b : Fin 2048 → EReal) (W : Fin 2048 → Fin 6144 → EReal)
    (B : Fin 6144 → EReal) (r : Fin 4096) (c : Fin 6144) : EReal :=
  (∑ k, normAt (X r) w b k * W k c) + B c

/-- The scale of the scores, one over the root of the head's width as the programs write it. -/
def scale : EReal := Ideal.ofBits .f32 1035273459#32

/-- The keys (or values) of a head: the cached ones, then the fresh ones. -/
def joined (a : Fin 512 → Fin 128 → EReal) (b : Fin 1024 → Fin 128 → EReal) (j : Fin 1536) (d : Fin 128) : EReal :=
  if h : j.val < 512 then a ⟨j, h⟩ d else b ⟨j - 512, by omega⟩ d

/-- The cached part of the keys. -/
theorem joined_left (a : Fin 512 → Fin 128 → EReal) (b : Fin 1024 → Fin 128 → EReal) (j : Fin 512) (d : Fin 128) :
    joined a b ⟨j.val, by omega⟩ d = a j d := dif_pos j.isLt

/-- A query's masked score against one key: the query at position `row` sees the cache and the fresh keys up to `row`. -/
def scoreAt (row : ℕ) (q : Fin 128 → EReal) (K : Fin 1536 → Fin 128 → EReal) (j : Fin 1536) : EReal :=
  if j.val ≤ 512 + row then (∑ x, q x * K j x) * scale else ⊥

/-- One entry of the attention's output as the reference writes it: every weight normalised, then the values averaged. -/
def attendAt (row : ℕ) (q : Fin 128 → EReal) (K V : Fin 1536 → Fin 128 → EReal) (d : Fin 128) : EReal :=
  ∑ j, V j d * Ideal.div (Ideal.exp (scoreAt row q K j - max ⊥ (most (scoreAt row q K))))
    (∑ l, Ideal.exp (scoreAt row q K l - max ⊥ (most (scoreAt row q K))))

/-- A scaled query's score against one cached key. -/
def cacheScore (q : Fin 128 → EReal) (kc : Fin 512 → Fin 128 → EReal) (j : Fin 512) : EReal :=
  ∑ x, q x * scale * kc j x

/-- A scaled query's masked score against one of the first `n` fresh keys. -/
def freshScore {n : ℕ} (row : ℕ) (q : Fin 128 → EReal) (kf : Fin n → Fin 128 → EReal) (j : Fin n) : EReal :=
  if j.val ≤ row then ∑ x, q x * scale * kf j x else ⊥

/-- The larger of the two parts' largest scores. -/
def top {n : ℕ} (row : ℕ) (q : Fin 128 → EReal) (kc : Fin 512 → Fin 128 → EReal) (kf : Fin n → Fin 128 → EReal) : EReal :=
  max (most (cacheScore q kc)) (most (freshScore row q kf))

/-- One entry of the attention's output as the kernel writes it: the cache and the first `n` fresh keys, the weighted sum
    divided once by the sum of the weights. -/
def cutAt {n : ℕ} (row : ℕ) (q : Fin 128 → EReal) (kc vc : Fin 512 → Fin 128 → EReal) (kf vf : Fin n → Fin 128 → EReal)
    (d : Fin 128) : EReal :=
  Ideal.div
    ((∑ j, Ideal.exp (cacheScore q kc j - top row q kc kf) * vc j d)
      + ∑ j, Ideal.exp (freshScore row q kf j - top row q kc kf) * vf j d)
    ((∑ j, Ideal.exp (cacheScore q kc j - top row q kc kf)) + ∑ j, Ideal.exp (freshScore row q kf j - top row q kc kf))

/-- The row of the token `i` of sequence `b`. -/
abbrev tok (b : Fin 4) (i : Fin 1024) : Fin 4096 := ⟨b.val * 1024 + i.val, by omega⟩

/-- The projections' column of a head's channel: queries from 0, keys from 2048, values from 4096. -/
abbrev col (o : ℕ) (h : Fin 16) (d : Fin 128) (ho : o ≤ 4096) : Fin 6144 := ⟨o + (h.val * 128 + d.val), by omega⟩

/-- One entry of the attention's output from the projections and the caches. -/
def ctxAt (Y : Fin 4096 → Fin 6144 → EReal) (KC VC : Fin 4 → Fin 512 → Fin 16 → Fin 128 → EReal) (b : Fin 4) (i : Fin 1024)
    (h : Fin 16) (d : Fin 128) : EReal :=
  attendAt i.val (fun x => Y (tok b i) (col 0 h x (by decide)))
    (joined (fun j x => KC b j h x) fun j x => Y (tok b j) (col 2048 h x (by decide)))
    (joined (fun j x => VC b j h x) fun j x => Y (tok b j) (col 4096 h x (by decide))) d

/-- One entry of the whole program's result. -/
def outAt (C : Fin 4 → Fin 1024 → Fin 16 → Fin 128 → EReal) (W : Fin 2048 → Fin 2048 → EReal) (B : Fin 2048 → EReal)
    (r : Fin 4096) (c : Fin 2048) : EReal :=
  (∑ k : Fin 2048, C ⟨r / 1024, by omega⟩ ⟨r % 1024, by omega⟩ ⟨k / 128, by omega⟩ ⟨k % 128, by omega⟩ * W k c) + B c

/-- The scale is a nonnegative real. -/
theorem scale_real : 0 ≤ scale ∧ IsReal scale := by
  have e : scale = ((11863283 / 134217728 : ℝ) : EReal) := by
    simp [scale, Ideal.ofBits, Ideal.ieee]
    rw [← EReal.coe_mul]
    norm_num
  rw [e]
  exact ⟨by exact_mod_cast (by norm_num : (0 : ℝ) ≤ 11863283 / 134217728), _, rfl⟩

/-- The pattern of the row's length. -/
theorem length_real : Ideal.ofBits .f32 1157627904#32 = ((2048 : ℝ) : EReal) := by
  simp [Ideal.ofBits, Ideal.ieee]
  rw [← EReal.coe_mul]
  norm_num

/-- The small number added to the variance is a positive real. -/
theorem eps_real : ∃ r : ℝ, 0 < r ∧ Ideal.ofBits .f32 925353388#32 = (r : EReal) := by
  have e : Ideal.ofBits .f32 925353388#32 = ((10995116 / 1099511627776 : ℝ) : EReal) := by
    simp [Ideal.ofBits, Ideal.ieee]
    rw [← EReal.coe_mul]
    norm_num
  exact ⟨_, by norm_num, e⟩

/-- The mean of a row is its sum times a positive real. -/
theorem meanOf_coe {x : Fin 2048 → EReal} {r : ℝ} (hx : ∑ k, x k = (r : EReal)) : meanOf x = ((r * (2048 : ℝ)⁻¹ : ℝ) : EReal) := by
  have h : ((2048 : ℝ) : EReal) ≠ 0 := by exact_mod_cast (by norm_num : (2048 : ℝ) ≠ 0)
  rw [meanOf, length_real, hx, Ideal.div, if_neg h, ← EReal.coe_inv, ← EReal.coe_mul]

/-- The mean of a row of reals is real. -/
theorem meanOf_real {x : Fin 2048 → EReal} (hx : ∀ k, IsReal (x k)) : IsReal (meanOf x) := by
  obtain ⟨r, hr⟩ := IsReal.sum hx
  exact ⟨_, meanOf_coe hr⟩

/-- The mean of a row of squares of reals is a nonnegative real. -/
theorem meanOf_sq {x : Fin 2048 → EReal} (hx : ∀ k, IsReal (x k)) :
    ∃ r : ℝ, 0 ≤ r ∧ meanOf (fun i => x i * x i) = (r : EReal) := by
  choose y hy using hx
  have h : ∑ k, x k * x k = ((∑ k, y k * y k : ℝ) : EReal) := by
    rw [coe_sum]
    exact Finset.sum_congr rfl fun k _ => by rw [hy k, EReal.coe_mul]
  exact ⟨_, mul_nonneg (Finset.sum_nonneg fun k _ => mul_self_nonneg _) (by norm_num), meanOf_coe h⟩

/-- A sum with a summand minus infinity is minus infinity. -/
theorem sum_bot {ι : Type} [Fintype ι] {f : ι → EReal} (a : ι) (ha : f a = ⊥) : ∑ i, f i = ⊥ := by
  classical
  rw [← Finset.add_sum_erase Finset.univ f (Finset.mem_univ a), ha, EReal.bot_add]

/-- A sum with a summand plus infinity and none minus infinity is plus infinity. -/
theorem sum_top {ι : Type} [Fintype ι] {f : ι → EReal} (hf : ∀ i, f i ≠ ⊥) (a : ι) (ha : f a = ⊤) : ∑ i, f i = ⊤ := by
  classical
  rw [← Finset.add_sum_erase Finset.univ f (Finset.mem_univ a), ha]
  refine EReal.top_add_of_ne_bot ?_
  refine Finset.sum_induction f (fun y => y ≠ ⊥) (fun y z hy hz => ?_) (by simp) fun i _ => hf i
  rw [ne_eq, EReal.add_eq_bot_iff, not_or]
  exact ⟨hy, hz⟩

/-- A number that is not real is infinite. -/
theorem infinite_of_not {x : EReal} (h : ¬ IsReal x) : x = ⊥ ∨ x = ⊤ := by
  induction x using EReal.rec with
  | coe r => exact absurd ⟨r, rfl⟩ h
  | bot => exact Or.inl rfl
  | top => exact Or.inr rfl

/-- The mean of a row whose sum is minus infinity. -/
theorem meanOf_bot {x : Fin 2048 → EReal} (hx : ∑ k, x k = ⊥) : meanOf x = ⊥ := by
  have h : ((2048 : ℝ) : EReal) ≠ 0 := by exact_mod_cast (by norm_num : (2048 : ℝ) ≠ 0)
  rw [meanOf, length_real, hx, Ideal.div, if_neg h, ← EReal.coe_inv]
  exact EReal.bot_mul_coe_of_pos (by norm_num)

/-- The mean of a row whose sum is plus infinity. -/
theorem meanOf_top {x : Fin 2048 → EReal} (hx : ∑ k, x k = ⊤) : meanOf x = ⊤ := by
  have h : ((2048 : ℝ) : EReal) ≠ 0 := by exact_mod_cast (by norm_num : (2048 : ℝ) ≠ 0)
  rw [meanOf, length_real, hx, Ideal.div, if_neg h, ← EReal.coe_inv]
  exact EReal.top_mul_coe_of_pos (by norm_num)

/-- In a row with an infinite entry every centred entry is infinite. -/
theorem centred_infinite {x : Fin 2048 → EReal} {a : Fin 2048} (ha : ¬ IsReal (x a)) (k : Fin 2048) :
    x k - meanOf x = ⊥ ∨ x k - meanOf x = ⊤ := by
  by_cases hb : ∃ i, x i = ⊥
  · obtain ⟨i, hi⟩ := hb
    rw [meanOf_bot (sum_bot i hi), sub_eq_add_neg, EReal.neg_bot]
    by_cases hk : x k = ⊥
    · exact Or.inl (by rw [hk, EReal.bot_add])
    · exact Or.inr (EReal.add_top_of_ne_bot hk)
  · have hb : ∀ i, x i ≠ ⊥ := fun i hi => hb ⟨i, hi⟩
    have ht : x a = ⊤ := (infinite_of_not ha).resolve_left (hb a)
    rw [meanOf_top (sum_top hb a ht), sub_eq_add_neg, EReal.neg_top]
    exact Or.inl (EReal.add_bot _)

/-- A row with an infinite entry has an infinite deviation, whose reciprocal is zero: the row is normalised to zero. -/
theorem deviation_infinite {x : Fin 2048 → EReal} {a : Fin 2048} (ha : ¬ IsReal (x a)) :
    Ideal.rsqrt (meanOf (fun i => (x i - meanOf x) * (x i - meanOf x)) + Ideal.ofBits .f32 925353388#32) = 0 := by
  have hs : ∀ i, (x i - meanOf x) * (x i - meanOf x) = ⊤ := fun i => by
    rcases centred_infinite ha i with h | h <;> rw [h] <;> simp
  obtain ⟨e, _, he⟩ := eps_real
  rw [meanOf_top (sum_top (fun i => by rw [hs i]; simp) a (hs a)), he, EReal.top_add_coe]
  rfl

/-- A normalised row is real, whatever the row holds, when its scales and shifts are. -/
theorem normAt_real {x w b : Fin 2048 → EReal} (hw : ∀ k, IsReal (w k)) (hb : ∀ k, IsReal (b k))
    (k : Fin 2048) : IsReal (normAt x w b k) := by
  by_cases hx : ∀ k, IsReal (x k)
  · have hc : ∀ i, IsReal (x i - meanOf x) := fun i => (hx i).sub (meanOf_real hx)
    obtain ⟨v, hv0, hv⟩ := meanOf_sq hc
    obtain ⟨e, he0, he⟩ := eps_real
    have hs : IsReal (Ideal.rsqrt (meanOf (fun i => (x i - meanOf x) * (x i - meanOf x)) + Ideal.ofBits .f32 925353388#32)) := by
      rw [hv, he, ← EReal.coe_add]
      have h1 : ¬ (v + e < 0) := by linarith
      have h2 : ¬ (v + e = 0) := by linarith
      refine ⟨(Real.sqrt (v + e))⁻¹, ?_⟩
      show (if v + e < 0 then (⊥ : EReal) else if v + e = 0 then ⊤ else (((Real.sqrt (v + e))⁻¹ : ℝ) : EReal)) = _
      rw [if_neg h1, if_neg h2]
    exact (((hc k).mul hs).mul (hw k)).add (hb k)
  · obtain ⟨a, ha⟩ := not_forall.mp hx
    rw [normAt, deviation_infinite ha, mul_zero, zero_mul, zero_add]
    exact hb k

/-- A projection of normalised rows with finite weights is real. -/
theorem qkvAt_real {X : Fin 4096 → Fin 2048 → EReal} {w b : Fin 2048 → EReal} {W : Fin 2048 → Fin 6144 → EReal}
    {B : Fin 6144 → EReal} (hw : ∀ k, IsReal (w k)) (hb : ∀ k, IsReal (b k))
    (r : Fin 4096) (c : Fin 6144) (hW : ∀ k, IsReal (W k c)) (hB : IsReal (B c)) : IsReal (qkvAt X w b W B r c) :=
  (IsReal.sum fun k => (normAt_real hw hb k).mul (hW k)).add hB

/-- Leaving out the fresh keys from the `n`-th on, all of them masked, changes nothing. -/
theorem cutAt_eq {n : ℕ} (hn : n ≤ 1024) (row : ℕ) (hrow : row < n) (q : Fin 128 → EReal) (kc vc : Fin 512 → Fin 128 → EReal)
    (kf vf : Fin 1024 → Fin 128 → EReal) (hq : ∀ x, IsReal (q x)) (hkc : ∀ j x, IsReal (kc j x)) (hkf : ∀ j x, IsReal (kf j x))
    (d : Fin 128) :
    cutAt row q kc vc (fun j : Fin n => kf ⟨j, by omega⟩) (fun j : Fin n => vf ⟨j, by omega⟩) d
      = attendAt row q (joined kc kf) (joined vc vf) d := by
  obtain ⟨h0, hs⟩ := scale_real
  have ht : scale ≠ ⊤ := by obtain ⟨r, hr⟩ := hs; rw [hr]; exact EReal.coe_ne_top r
  let e : Fin 512 ⊕ Fin n → Fin 1536 := Sum.elim (fun j => ⟨j.val, by omega⟩) (fun j => ⟨512 + j.val, by omega⟩)
  have hK : ∀ j x, IsReal (joined kc kf j x) := fun j x => by
    unfold joined
    split
    · exact hkc _ _
    · exact hkf _ _
  have hdot : ∀ j, IsReal ((∑ x, q x * joined kc kf j x) * scale) := fun j =>
    (IsReal.sum fun x => (hq x).mul (hK j x)).mul hs
  have hc : ∀ j, scoreAt row q (joined kc kf) (e (.inl j)) = cacheScore q kc j := fun j => by
    have h1 : j.val ≤ 512 + row := by omega
    refine (if_pos h1).trans ?_
    rw [cacheScore, scaled_dot _ _ h0 ht]
    exact congrArg (· * scale) (Finset.sum_congr rfl fun x _ => congrArg (q x * ·) (joined_left kc kf j x))
  have hf : ∀ j, scoreAt row q (joined kc kf) (e (.inr j)) = freshScore row q (fun j : Fin n => kf ⟨j, by omega⟩) j := fun j => by
    have h2 : ¬ (512 + j.val < 512) := by omega
    simp only [scoreAt, e, Sum.elim_inr, freshScore, scaled_dot _ _ h0 ht, joined, dif_neg h2, Nat.add_sub_cancel_left,
      Nat.add_le_add_iff_left]
  have hvc : ∀ j, joined vc vf (e (.inl j)) d = vc j d := fun j => joined_left vc vf j d
  have hvf : ∀ j, joined vc vf (e (.inr j)) d = vf ⟨j.val, by omega⟩ d := fun j => by
    have h2 : ¬ (512 + j.val < 512) := by omega
    simp only [joined, e, Sum.elim_inr, dif_neg h2, Nat.add_sub_cancel_left]
  have key := softmax_parts e ?_ (scoreAt row q (joined kc kf)) (fun j => joined vc vf j d) ?_ (0 : Fin 512) ?_ ?_
  · simp only [hc, hf, hvc, hvf] at key
    exact key
  · rintro (a | a) (b | b) h <;> simp only [e, Sum.elim_inl, Sum.elim_inr, Fin.mk.injEq] at h
    · exact congrArg _ (Fin.ext h)
    · omega
    · omega
    · exact congrArg _ (Fin.ext (by omega))
  · intro j
    unfold scoreAt
    split
    · obtain ⟨r, hr⟩ := hdot j
      rw [hr]; exact EReal.coe_ne_top r
    · exact bot_ne_top
  · have h1 : (e (.inl 0)).val ≤ 512 + row := by simp [e]
    obtain ⟨r, hr⟩ := hdot (e (.inl 0))
    rw [scoreAt, if_pos h1, hr]
    exact EReal.coe_ne_bot r
  · intro j hj
    unfold scoreAt
    rw [if_neg]
    intro h
    by_cases h2 : j.val < 512
    · exact hj ⟨.inl ⟨j.val, h2⟩, rfl⟩
    · exact hj ⟨.inr ⟨j.val - 512, by omega⟩, Fin.ext (by simp only [e, Sum.elim_inr]; omega)⟩

end Cert.Math
-- ==== Proof.Finite.lean ====
/- What the precondition says of the arguments: the cached keys, and the weights the queries and fresh keys are
   computed with, are real numbers. -/
module

public import proofs.«01_k».proof.Pre_finite_scores
public import Idealize.ShloMosaic.Lib.Pointwise
public import proofs.«01_k».proof.Proof.Spec

@[expose] public section

noncomputable section

namespace Cert.Pre_finite_scores

open Idealize.ShloMosaic Cert.Math

/-- The shapes of the precondition's operations agree. -/
instance facts : Facts where
  slices_S4x2048x16x128_S4x512x16x128_0_0_0_0 := by decide
  bcast_S_S4x512x16x128 := by decide
  bcast_S_S2048 := by decide
  slices_S2048x6144_S2048x4096_0_0 := by decide
  bcast_S_S2048x4096 := by decide
  slices_S6144_S4096_0 := by decide
  bcast_S_S4096 := by decide

/-- A number whose absolute value is below infinity is real. -/
theorem real_of_lt (x : EReal)
    (h : BitVec.ofBool (decide ((FloatOps.absf (F := Ideal) (φ := .f32) x : EReal) < Ideal.ofBits .f32 2139095040#32)) = 1#1) : IsReal x := by
  rw [ofBits_top] at h
  have h : (max x (-x) : EReal) < ⊤ := by
    by_contra hn
    have : BitVec.ofBool (decide ((max x (-x) : EReal) < ⊤)) = 1#1 := h
    rw [decide_eq_false hn] at this
    exact absurd this (by decide)
  rw [max_lt_iff] at h
  induction x using EReal.rec with
  | coe r => exact ⟨r, rfl⟩
  | bot => exact absurd h.2 (by simp)
  | top => exact absurd h.1 (by simp)

variable (A0 : FVec Ideal S4096x2048 .f32) (A1 : IVec S5 32) (A2 A3 : FVec Ideal S4x2048x16x128 .f32) (A4 : IVec S4 32) (A5 : IVec S_ 32)
  (A6 A7 : FVec Ideal S2048 .f32) (A8 : FVec Ideal S2048x6144 .f32) (A9 : FVec Ideal S6144 .f32) (A10 : FVec Ideal S2048x2048 .f32)
  (A11 : FVec Ideal S2048 .f32)

/-- The cached keys that are read are real. -/
theorem cache_real (h : (fn (F := Ideal) A0 A1 A2 A3 A4 A5 A6 A7 A8 A9 A10 A11).1 = fun _ => 1#1) (b : Fin 4) (j : Fin 512) (h' : Fin 16) (d : Fin 128) :
    IsReal (A2 (ix4 b ⟨j.val, by omega⟩ h' d)) := by
  refine real_of_lt _ (Eq.trans ?_ (congrFun h (ix4 b j h' d)))
  pointwise [fn]

/-- The normalisation's scales are real. -/
theorem scale_real (h : (fn (F := Ideal) A0 A1 A2 A3 A4 A5 A6 A7 A8 A9 A10 A11).2.1 = fun _ => 1#1) (k : Fin 2048) :
    IsReal (A6 (ix1 k)) := by
  refine real_of_lt _ (Eq.trans ?_ (congrFun h (ix1 k)))
  pointwise [fn]

/-- The normalisation's shifts are real. -/
theorem shift_real (h : (fn (F := Ideal) A0 A1 A2 A3 A4 A5 A6 A7 A8 A9 A10 A11).2.2.1 = fun _ => 1#1) (k : Fin 2048) :
    IsReal (A7 (ix1 k)) := by
  refine real_of_lt _ (Eq.trans ?_ (congrFun h (ix1 k)))
  pointwise [fn]

/-- The weights of the queries and the keys are real. -/
theorem weight_real (h : (fn (F := Ideal) A0 A1 A2 A3 A4 A5 A6 A7 A8 A9 A10 A11).2.2.2.1 = fun _ => 1#1) (k : Fin 2048) (c : Fin 4096) :
    IsReal (A8 (ix2 k ⟨c.val, by omega⟩)) := by
  refine real_of_lt _ (Eq.trans ?_ (congrFun h (ix2 k c)))
  pointwise [fn]

/-- The biases of the queries and the keys are real. -/
theorem bias_real (h : (fn (F := Ideal) A0 A1 A2 A3 A4 A5 A6 A7 A8 A9 A10 A11).2.2.2.2 = fun _ => 1#1) (c : Fin 4096) :
    IsReal (A9 (ix1 ⟨c.val, by omega⟩)) := by
  refine real_of_lt _ (Eq.trans ?_ (congrFun h (ix1 c)))
  pointwise [fn]

end Cert.Pre_finite_scores
-- ==== Proof.KernelIdealRead.lean ====
/- What each body computes, read entry by entry. -/
module

public import proofs.«01_k».proof.Proof.Gen.KernelIdeal.Skeleton
public import Idealize.ShloMosaic.Lib.Pointwise
public import proofs.«01_k».proof.Proof.Spec
public import proofs.«01_k».proof.Proof.KernelIdealAttn

@[expose] public section

set_option maxRecDepth 16384

noncomputable section

namespace Cert.KernelIdeal.Value

open Idealize.ShloMosaic Idealize.ShloMosaic.TcCoe
open Cert.KernelIdeal Cert.KernelIdeal.Gen Cert.KernelIdeal.Hand Cert.Math

/-- The masked scores' constant is minus infinity. -/
theorem mask_bot : Named.named (F := Ideal) κ "mask" (φ := .f32) 3463342888#32 = ⊥ := rfl

/-- The mask of a group: row `r` of the group that starts at `c` keeps the keys up to `c + r`. -/
theorem masked {n : ℕ} (c : ℕ) (hn : n ≤ 1024) (hc : c ≤ 768) (r : Fin 256) (j : Fin n) (x : EReal) :
    Scalar.select (IntOp.cmpi .sle (BitVec.ofNat 32 j.val) (IntOp.addi (BitVec.ofNat 32 r.val) (BitVec.ofNat 32 c))) x
        (Named.named (F := Ideal) κ "mask" (φ := .f32) 3463342888#32)
      = if j.val ≤ c + r.val then x else ⊥ := by
  rw [mask_bot, IntOp.addi, ← BitVec.ofNat_add, Nat.add_comm, select_sle _ _ _ _ (by omega) (by omega)]

/-- The normalised block of rows. -/
theorem norm_at (x : FVec Ideal S1024x2048 .f32) (w b : FVec Ideal S1x2048 .f32) (r : Fin 1024) (k : Fin 2048) :
    k0_pay1 (F := Ideal) x w b (ix2 r k) = normAt (fun k => x (ix2 r k)) (fun k => w (ix2 0 k)) (fun k => b (ix2 0 k)) k := by
  pointwise [k0_pay1, normAt, meanOf]

/-- A block of the projections. -/
theorem prod_at (x : FVec Ideal S1024x2048 .f32) (w : FVec Ideal S2048x512 .f32) (b : FVec Ideal S1x512 .f32) (r : Fin 1024) (k : Fin 512) :
    k0_pay2 (F := Ideal) x w b (ix2 r k) = (∑ l, x (ix2 r l) * w (ix2 l k)) + b (ix2 0 k) := by
  pointwise [k0_pay2]

/-- A block of the last projection. -/
theorem proj_at (x : FVec Ideal S1024x2048 .f32) (w : FVec Ideal S2048x1024 .f32) (b : FVec Ideal S1x1024 .f32) (r : Fin 1024) (k : Fin 1024) :
    k2_pay1 (F := Ideal) x w b (ix2 r k) = (∑ l, x (ix2 r l) * w (ix2 l k)) + b (ix2 0 k) := by
  pointwise [k2_pay1]

/-- The rows of group 1: the attention over the cache and the first 256 fresh keys. -/
theorem group0_at (q : FVec Ideal S1x256x128 .f32) (kc vc : FVec Ideal S1x512x128 .f32) (k v : FVec Ideal S1x256x128 .f32) (r : Fin 256) (d : Fin 128) :
    group0 (F := Ideal) q kc vc k v (ix3 0 r d)
      = cutAt (0 + r.val) (fun x => q (ix3 0 r x)) (fun j x => kc (ix3 0 j x)) (fun j x => vc (ix3 0 j x))
          (fun (j : Fin 256) x => k (ix3 0 j x)) (fun (j : Fin 256) x => v (ix3 0 j x)) d := by
  pointwise [group0, k1_pay12, k1_pay3, k1_pay5, k1_pay9, k1_pay10, k1_pay11, k1_pay8, k1_pay6, k1_pay7, k1_pay4, k1_pay2]
  simp only [masked (n := 256) 0 (by decide) (by decide), ofBits_bot, Nat.zero_add]
  rfl

/-- The rows of group 2: the attention over the cache and the first 512 fresh keys. -/
theorem group1_at (q : FVec Ideal S1x256x128 .f32) (kc vc : FVec Ideal S1x512x128 .f32) (k v : FVec Ideal S1x512x128 .f32) (r : Fin 256) (d : Fin 128) :
    group1 (F := Ideal) q kc vc k v (ix3 0 r d)
      = cutAt (256 + r.val) (fun x => q (ix3 0 r x)) (fun j x => kc (ix3 0 j x)) (fun j x => vc (ix3 0 j x))
          (fun (j : Fin 512) x => k (ix3 0 j x)) (fun (j : Fin 512) x => v (ix3 0 j x)) d := by
  pointwise [group1, k1_pay20, k1_pay3, k1_pay14, k1_pay2, k1_pay18, k1_pay19, k1_pay17, k1_pay15, k1_pay16, k1_pay13]
  simp only [masked (n := 512) 256 (by decide) (by decide), ofBits_bot]
  rfl

/-- The rows of group 3: the attention over the cache and the first 768 fresh keys. -/
theorem group2_at (q : FVec Ideal S1x256x128 .f32) (kc vc : FVec Ideal S1x512x128 .f32) (k v : FVec Ideal S1x768x128 .f32) (r : Fin 256) (d : Fin 128) :
    group2 (F := Ideal) q kc vc k v (ix3 0 r d)
      = cutAt (512 + r.val) (fun x => q (ix3 0 r x)) (fun j x => kc (ix3 0 j x)) (fun j x => vc (ix3 0 j x))
          (fun (j : Fin 768) x => k (ix3 0 j x)) (fun (j : Fin 768) x => v (ix3 0 j x)) d := by
  pointwise [group2, k1_pay26, k1_pay3, k1_pay22, k1_pay2, k1_pay23, k1_pay24, k1_pay25, k1_pay21]
  simp only [masked (n := 768) 512 (by decide) (by decide), ofBits_bot]
  rfl

/-- The rows of group 4: the attention over the cache and the first 1024 fresh keys. -/
theorem group3_at (q : FVec Ideal S1x256x128 .f32) (kc vc : FVec Ideal S1x512x128 .f32) (k v : FVec Ideal S1x1024x128 .f32) (r : Fin 256) (d : Fin 128) :
    group3 (F := Ideal) q kc vc k v (ix3 0 r d)
      = cutAt (768 + r.val) (fun x => q (ix3 0 r x)) (fun j x => kc (ix3 0 j x)) (fun j x => vc (ix3 0 j x))
          (fun (j : Fin 1024) x => k (ix3 0 j x)) (fun (j : Fin 1024) x => v (ix3 0 j x)) d := by
  pointwise [group3, k1_pay1, k1_pay3, k1_pay28, k1_pay2, k1_pay29, k1_pay30, k1_pay31, k1_pay27]
  simp only [masked (n := 1024) 768 (by decide) (by decide), ofBits_bot]
  rfl

end Cert.KernelIdeal.Value
-- ==== Proof.KernelIdealArrays.lean ====
/- The arrays the three calls leave, entry by entry, from the arrays they start with. -/
module

public import proofs.«01_k».proof.Proof.KernelIdealRead
public import proofs.«01_k».proof.Proof.KernelIdealLn
public import proofs.«01_k».proof.Proof.KernelIdealProj
public import Idealize.ShloMosaic.Lib.Pipeline.ValueKit

@[expose] public section

set_option maxRecDepth 16384

noncomputable section

namespace Cert.KernelIdeal.Value

open Idealize.ShloMosaic Idealize.ShloMosaic.TcCoe
open Idealize.ShloMosaic.Pipeline (Dat)
open Cert.KernelIdeal Cert.KernelIdeal.Gen Cert.KernelIdeal.Hand Cert.Math

-- the buffers as a call finds them
variable (V : (c : Dev nD) → (b : Ref sig .tc) → Buf (Elt Ideal) ((c : Thread nD τ).loc b))

/-! ## The first call -/

/-- Where the blocks of the first call lie. -/
theorem place0 : ∀ t : Fin cfg0.N, win0_0.index t = ![t.val / 12, 0] ∧ win0_1.index t = ![0, 0] ∧ win0_2.index t = ![0, 0]
    ∧ win0_3.index t = ![0, t.val % 12] ∧ win0_4.index t = ![0, t.val % 12] ∧ win0_5.index t = ![t.val / 12, min (t.val % 12) 3]
    ∧ win0_6.index t = ![t.val / 12, max 4 (min (t.val % 12) 7) - 4] ∧ win0_7.index t = ![t.val / 12, max 8 (t.val % 12) - 8] :=
  (by decide +kernel : ∀ t : Fin grid0.N, _)

/-- The projections of the normalised rows, from the arrays the first call starts with. -/
def projected (c : Dev nD) : Fin 4096 → Fin 6144 → EReal :=
  qkvAt (fun r k => (show FVec Ideal S4096x2048 .f32 from V c main_arg0) (ix2 r k))
    (fun k => (show FVec Ideal S1x2048 .f32 from V c main_v0) (ix2 0 k)) (fun k => (show FVec Ideal S1x2048 .f32 from V c main_v1) (ix2 0 k))
    (fun k j => (show FVec Ideal S2048x6144 .f32 from V c main_arg8) (ix2 k j)) (fun j => (show FVec Ideal S1x6144 .f32 from V c main_v2) (ix2 0 j))

/-- The scratch's rows are the block of rows normalised. -/
theorem rows_read (c : Dev nD) (t : Fin cfg0.N) (a : Fin 1024) (k : Fin 2048) (r : Fin 4096) (hr : r.val = t.val / 12 * 1024 + a.val) :
    rowsAt V c t (ix2 a k) = normAt (fun k => (show FVec Ideal S4096x2048 .f32 from V c main_arg0) (ix2 r k))
      (fun k => (show FVec Ideal S1x2048 .f32 from V c main_v0) (ix2 0 k)) (fun k => (show FVec Ideal S1x2048 .f32 from V c main_v1) (ix2 0 k)) k := by
  have ht : (ptFirst t).val / 12 = t.val / 12 := by simp only [ptFirst]; omega
  refine (norm_at _ _ _ a k).trans ?_
  congr 1
  · funext k; blk_ext [blk0, place0 (ptFirst t), ht, hr]
  · funext k; blk_ext [blk0, place0 (ptFirst t)]
  · funext k; blk_ext [blk0, place0 (ptFirst t)]

/-- The product of a point is its block of the projections. -/
theorem prod_read (c : Dev nD) (t : Fin cfg0.N) (a : Fin 1024) (b : Fin 512) (r : Fin 4096) (j : Fin 6144)
    (hr : r.val = t.val / 12 * 1024 + a.val) (hj : j.val = t.val % 12 * 512 + b.val) :
    prodAt V c t (ix2 a b) = projected V c r j := by
  refine (prod_at _ _ _ a b).trans ?_
  unfold projected qkvAt
  refine congrArg₂ (· + ·) (Finset.sum_congr rfl fun k _ => congrArg₂ (· * ·) (rows_read V c t a k r hr) ?_) ?_
  · blk_ext [blk0, place0 t, hj]
  · blk_ext [blk0, place0 t, hj]

/-- The same at an index of the block. -/
theorem prod_index (c : Dev nD) (t : Fin cfg0.N) (y : S1024x512.Idx) (r : Fin 4096) (j : Fin 6144)
    (hr : r.val = t.val / 12 * 1024 + (y 0).val) (hj : j.val = t.val % 12 * 512 + (y 1).val) :
    prodAt V c t y = projected V c r j := by
  idx_vars y
  exact prod_read V c t _ _ r j hr hj

/-- The array of queries after the first call. -/
theorem queries (c : Dev nD) : (lnDat V c).arrAt 5 cfg0.N
    = fun i : S4096x2048.Idx => projected V c (i 0) ⟨(i 1).val, lt_of_lt_of_le (i 1).isLt (by decide)⟩ := by
  refine (lnDat V c).arrAt_eq_of_covers 5 _ (by decide +kernel) fun t hf y => ?_
  have hf := (flushQ_iff t).mp hf
  blk_simp
  rw [(lnDat_out V c t).1]
  refine prod_index V c (ptQ t) y _ _ ?_ ?_
  · blk_simp [place0 t]; simp only [ptQ]; omega
  · simp only [place0 t, ptQ]; simp; omega

/-- The array of keys after the first call. -/
theorem keys (c : Dev nD) : (lnDat V c).arrAt 6 cfg0.N
    = fun i : S4096x2048.Idx => projected V c (i 0) ⟨2048 + (i 1).val, lt_of_lt_of_le (Nat.add_lt_add_left (i 1).isLt 2048) (by decide)⟩ := by
  refine (lnDat V c).arrAt_eq_of_covers 6 _ (by decide +kernel) fun t hf y => ?_
  have hf := (flushK_iff t).mp hf
  blk_simp
  rw [(lnDat_out V c t).2.1]
  refine prod_index V c (ptK t) y _ _ ?_ ?_
  · blk_simp [place0 t]; simp only [ptK]; omega
  · simp only [place0 t, ptK]; simp; omega

/-- The array of values after the first call. -/
theorem values (c : Dev nD) : (lnDat V c).arrAt 7 cfg0.N
    = fun i : S4096x2048.Idx => projected V c (i 0) ⟨4096 + (i 1).val, lt_of_lt_of_le (Nat.add_lt_add_left (i 1).isLt 4096) (by decide)⟩ := by
  refine (lnDat V c).arrAt_eq_of_covers 7 _ (by decide +kernel) fun t hf y => ?_
  have hf := (flushV_iff t).mp hf
  blk_simp
  rw [(lnDat_out V c t).2.2]
  refine prod_index V c (ptV t) y _ _ ?_ ?_
  · blk_simp [place0 t]; simp only [ptV]; omega
  · simp only [place0 t, ptV]; simp; omega

/-! ## The third call -/

/-- Where the blocks of the third call lie. -/
theorem place2 : ∀ t : Fin cfg2.N, win2_0.index t = ![t.val / 2, 0] ∧ win2_1.index t = ![0, t.val % 2] ∧ win2_2.index t = ![0, t.val % 2]
    ∧ win2_3.index t = ![t.val / 2, t.val % 2] :=
  (by decide +kernel : ∀ t : Fin grid2.N, _)

/-- The result, from the arrays the third call starts with. -/
def combined (c : Dev nD) (r : Fin 4096) (j : Fin 2048) : EReal :=
  (∑ k : Fin 2048, (show FVec Ideal S4096x2048 .f32 from V c main_v10) (ix2 r k) * (show FVec Ideal S2048x2048 .f32 from V c main_arg10) (ix2 k j))
    + (show FVec Ideal S1x2048 .f32 from V c main_v11) (ix2 0 j)

/-- The block of a point is its part of the result. -/
theorem proj_read (c : Dev nD) (t : Fin cfg2.N) (a : Fin 1024) (b : Fin 1024) (r : Fin 4096) (j : Fin 2048)
    (hr : r.val = t.val / 2 * 1024 + a.val) (hj : j.val = t.val % 2 * 1024 + b.val) :
    k2_pay1 (F := Ideal) (blk2 V c 0 t) (blk2 V c 1 t) (blk2 V c 2 t) (ix2 a b) = combined V c r j := by
  refine (proj_at _ _ _ a b).trans ?_
  unfold combined
  refine congrArg₂ (· + ·) (Finset.sum_congr rfl fun k _ => congrArg₂ (· * ·) ?_ ?_) ?_
  · blk_ext [blk2, place2 t, hr]
  · blk_ext [blk2, place2 t, hj]
  · blk_ext [blk2, place2 t, hj]

/-- The same at an index of the block. -/
theorem proj_index (c : Dev nD) (t : Fin cfg2.N) (y : S1024x1024.Idx) (r : Fin 4096) (j : Fin 2048)
    (hr : r.val = t.val / 2 * 1024 + (y 0).val) (hj : j.val = t.val % 2 * 1024 + (y 1).val) :
    k2_pay1 (F := Ideal) (blk2 V c 0 t) (blk2 V c 1 t) (blk2 V c 2 t) y = combined V c r j := by
  idx_vars y
  exact proj_read V c t _ _ r j hr hj

/-- The array of the result after the third call. -/
theorem result (c : Dev nD) : (projDat V c).arrAt 3 cfg2.N = fun i : S4096x2048.Idx => combined V c (i 0) (i 1) := by
  refine (projDat V c).arrAt_eq_of_covers 3 _ (by decide +kernel) fun t hf y => ?_
  blk_simp
  rw [projDat_out V c t]
  refine proj_index V c t y _ _ ?_ ?_
  · blk_simp [place2 t]
  · blk_simp [place2 t]

/-! ## The second call -/

/-- Where the blocks of the second call lie. -/
theorem place1 : ∀ t : Fin cfg1.N, win1_0.index t = ![t.val / 16, 0, t.val % 16] ∧ win1_1.index t = ![t.val / 16, 0, t.val % 16]
    ∧ win1_2.index t = ![t.val / 16, 0, t.val % 16] ∧ win1_3.index t = ![t.val / 16, 0, t.val % 16]
    ∧ win1_4.index t = ![t.val / 16, 0, t.val % 16] ∧ win1_5.index t = ![t.val / 16, 0, t.val % 16] :=
  (by decide +kernel : ∀ t : Fin grid1.N, _)

/-- A head's entry of one of the arrays of rows. -/
def headAt (n : ℕ) (A : Fin 4 → Fin n → Fin 2048 → EReal) (b : Fin 4) (h : Fin 16) (j : Fin n) (x : Fin 128) : EReal :=
  A b j ⟨h.val * 128 + x.val, by omega⟩

/-- The attention's output, from the arrays the second call starts with. -/
def attended (c : Dev nD) (b : Fin 4) (i : Fin 1024) (h : Fin 16) (d : Fin 128) : EReal :=
  attendAt i.val (headAt 1024 (fun b i k => (show FVec Ideal S4x1024x2048 .f32 from V c main_v4) (ix3 b i k)) b h i)
    (joined (headAt 512 (fun b i k => (show FVec Ideal S4x2048x2048 .f32 from V c main_v7) (ix3 b ⟨i.val, by omega⟩ k)) b h)
      (headAt 1024 (fun b i k => (show FVec Ideal S4x1024x2048 .f32 from V c main_v5) (ix3 b i k)) b h))
    (joined (headAt 512 (fun b i k => (show FVec Ideal S4x2048x2048 .f32 from V c main_v8) (ix3 b ⟨i.val, by omega⟩ k)) b h)
      (headAt 1024 (fun b i k => (show FVec Ideal S4x1024x2048 .f32 from V c main_v6) (ix3 b i k)) b h)) d

/-- A row's attention over the cache and the leading fresh keys is its attention over all of them, whichever way the row's
    query and the leading keys and values are read off their blocks. -/
theorem lead_attend {n : ℕ} (hn : n ≤ 1024) (row : ℕ) (i : Fin 1024) (hi : i.val = row) (hrow : row < n)
    (q k v : FVec Ideal S1x1024x128 .f32) (kc vc : FVec Ideal S1x512x128 .f32)
    (hq : ∀ y, IsReal (q y)) (hkc : ∀ y, IsReal (kc y)) (hk : ∀ y, IsReal (k y)) (d e : Fin 128) (hd : d.val = e.val)
    (q' : Fin 128 → EReal) (k' v' : Fin n → Fin 128 → EReal) (eq : ∀ x, q' x = q (ix3 0 i x))
    (ek : ∀ j x, k' j x = k (ix3 0 ⟨j.val, by omega⟩ x)) (ev : ∀ j x, v' j x = v (ix3 0 ⟨j.val, by omega⟩ x)) :
    cutAt row q' (fun j x => kc (ix3 0 j x)) (fun j x => vc (ix3 0 j x)) k' v' e
      = attendAt i.val (fun x => q (ix3 0 i x)) (joined (fun j x => kc (ix3 0 j x)) fun j x => k (ix3 0 j x))
          (joined (fun j x => vc (ix3 0 j x)) fun j x => v (ix3 0 j x)) d := by
  obtain rfl : q' = fun x => q (ix3 0 i x) := funext eq
  obtain rfl : k' = fun j x => k (ix3 0 ⟨j.val, by omega⟩ x) := funext fun j => funext (ek j)
  obtain rfl : v' = fun j x => v (ix3 0 ⟨j.val, by omega⟩ x) := funext fun j => funext (ev j)
  obtain rfl : d = e := Fin.ext hd
  rw [hi]
  exact cutAt_eq hn row hrow _ _ _ (fun j x => k (ix3 0 j x)) (fun j x => v (ix3 0 j x)) (fun _ => hq _) (fun _ _ => hkc _) (fun _ _ => hk _) d

/-- The pieces of a block, read: every entry is the attention of its row. -/
theorem pieces_at (q k v : FVec Ideal S1x1024x128 .f32) (kc vc : FVec Ideal S1x512x128 .f32)
    (hq : ∀ y, IsReal (q y)) (hkc : ∀ y, IsReal (kc y)) (hk : ∀ y, IsReal (k y)) (i : Fin 1024) (d : Fin 128) :
    View.canon (attnPieces (F := Ideal) q kc vc k v) (ix3 0 i d)
      = attendAt i.val (fun x => q (ix3 0 i x)) (joined (fun j x => kc (ix3 0 j x)) fun j x => k (ix3 0 j x))
          (joined (fun j x => vc (ix3 0 j x)) fun j x => v (ix3 0 j x)) d := by
  unfold attnPieces
  canon_tiles x hx
  all_goals (idx_vars x; obtain rfl : x0 = 0 := Fin.ext (by omega))
  · refine (group3_at _ _ _ _ _ x1 x2).trans (lead_attend (by decide) _ i hx1 (by omega) q k v kc vc hq hkc hk d x2 hx2 _ _ _ ?_ ?_ ?_)
    all_goals (intros; pointwise <;> blk_ext [hx1])
  · refine (group2_at _ _ _ _ _ x1 x2).trans (lead_attend (by decide) _ i hx1 (by omega) q k v kc vc hq hkc hk d x2 hx2 _ _ _ ?_ ?_ ?_)
    all_goals (intros; pointwise <;> blk_ext [hx1])
  · refine (group1_at _ _ _ _ _ x1 x2).trans (lead_attend (by decide) _ i hx1 (by omega) q k v kc vc hq hkc hk d x2 hx2 _ _ _ ?_ ?_ ?_)
    all_goals (intros; pointwise <;> blk_ext [hx1])
  · refine (group0_at _ _ _ _ _ x1 x2).trans (lead_attend (by decide) _ i (hx1.trans (Nat.zero_add _).symm) (by omega) q k v kc vc hq hkc hk d x2 hx2 _ _ _ ?_ ?_ ?_)
    all_goals (intros; pointwise <;> blk_ext [hx1])

/-- The block of a point is its part of the attention's output. -/
theorem attn_read (c : Dev nD) (hq : ∀ i, IsReal ((show FVec Ideal S4x1024x2048 .f32 from V c main_v4) i))
    (hkc : ∀ (b : Fin 4) (j : Fin 512) (k : Fin 2048), IsReal ((show FVec Ideal S4x2048x2048 .f32 from V c main_v7) (ix3 b ⟨j.val, by omega⟩ k)))
    (hk : ∀ i, IsReal ((show FVec Ideal S4x1024x2048 .f32 from V c main_v5) i))
    (t : Fin cfg1.N) (i : Fin 1024) (d : Fin 128) (b : Fin 4) (h : Fin 16) (hb : b.val = t.val / 16) (hh : h.val = t.val % 16) :
    View.canon (attnPieces (F := Ideal) (blk1 V c 0 t) (blk1 V c 1 t) (blk1 V c 2 t) (blk1 V c 3 t) (blk1 V c 4 t)) (ix3 0 i d)
      = attended V c b i h d := by
  have hkc' : ∀ y : S1x512x128.Idx, IsReal ((show FVec Ideal S1x512x128 .f32 from blk1 V c 1 t) y) := fun y => by
    idx_vars y
    have e : (show FVec Ideal S1x512x128 .f32 from blk1 V c 1 t) (ix3 y0 y1 y2)
        = (show FVec Ideal S4x2048x2048 .f32 from V c main_v7) (ix3 b ⟨y1.val, by omega⟩ ⟨h.val * 128 + y2.val, by omega⟩) := by
      blk_ext [blk1, place1 t, hb, hh]
    exact Eq.mpr (congrArg IsReal e) (hkc b y1 _)
  refine (pieces_at _ _ _ _ _ (fun y => hq _) hkc' (fun y => hk _) i d).trans ?_
  unfold attended
  congr 1
  · funext x; unfold headAt; blk_ext [blk1, place1 t, hb, hh]
  · congr 1
    · funext j x; unfold headAt; blk_ext [blk1, place1 t, hb, hh]
    · funext j x; unfold headAt; blk_ext [blk1, place1 t, hb, hh]
  · congr 1
    · funext j x; unfold headAt; blk_ext [blk1, place1 t, hb, hh]
    · funext j x; unfold headAt; blk_ext [blk1, place1 t, hb, hh]

/-- The same at an index of the block. -/
theorem attn_index (c : Dev nD) (hq : ∀ i, IsReal ((show FVec Ideal S4x1024x2048 .f32 from V c main_v4) i))
    (hkc : ∀ (b : Fin 4) (j : Fin 512) (k : Fin 2048), IsReal ((show FVec Ideal S4x2048x2048 .f32 from V c main_v7) (ix3 b ⟨j.val, by omega⟩ k)))
    (hk : ∀ i, IsReal ((show FVec Ideal S4x1024x2048 .f32 from V c main_v5) i))
    (t : Fin cfg1.N) (y : S1x1024x128.Idx) (b : Fin 4) (i : Fin 1024) (h : Fin 16) (d : Fin 128) (hb : b.val = t.val / 16)
    (hi : i.val = (y 1).val) (hh : h.val = t.val % 16) (hd : d.val = (y 2).val) :
    View.canon (attnPieces (F := Ideal) (blk1 V c 0 t) (blk1 V c 1 t) (blk1 V c 2 t) (blk1 V c 3 t) (blk1 V c 4 t)) y
      = attended V c b i h d := by
  idx_vars y
  obtain rfl : y0 = 0 := Fin.ext (by omega)
  obtain rfl : i = y1 := Fin.ext hi
  obtain rfl : d = y2 := Fin.ext hd
  exact attn_read V c hq hkc hk t i d b h hb hh

/-- The array of the attention's output after the second call, when the queries and the keys are real. -/
theorem context (c : Dev nD) (hq : ∀ i, IsReal ((show FVec Ideal S4x1024x2048 .f32 from V c main_v4) i))
    (hkc : ∀ (b : Fin 4) (j : Fin 512) (k : Fin 2048), IsReal ((show FVec Ideal S4x2048x2048 .f32 from V c main_v7) (ix3 b ⟨j.val, by omega⟩ k)))
    (hk : ∀ i, IsReal ((show FVec Ideal S4x1024x2048 .f32 from V c main_v5) i)) :
    (attnDat V c).arrAt 5 cfg1.N = fun i : S4x1024x2048.Idx =>
      attended V c (i 0) (i 1) ⟨(i 2).val / 128, by have h := (i 2).isLt; simp at h; omega⟩ ⟨(i 2).val % 128, by omega⟩ := by
  refine (attnDat V c).arrAt_eq_of_covers 5 _ (by decide +kernel) fun t hf y => ?_
  blk_simp
  rw [attnDat_out V c t]
  have hy : (y 2).val < 128 := (y 2).isLt
  refine attn_index V c hq hkc hk t y _ _ _ _ ?_ ?_ ?_ ?_
  · blk_simp [place1 t]
  · blk_simp [place1 t]
  · simp only [place1 t]; simp; omega
  · simp only [place1 t]; simp; exact hy

end Cert.KernelIdeal.Value
-- ==== Proof.KernelIdealResult.lean ====
/- The kernel's result, entry by entry, from its arguments: the host's reshapes between the calls, the calls' arrays, and
   the whole put together. -/
module

public import proofs.«01_k».proof.Proof.KernelIdealArrays
public import proofs.«01_k».proof.Proof.KernelIdealRun
public import Idealize.ShloMosaic.Lib.Claim

@[expose] public section

set_option maxRecDepth 16384

noncomputable section

namespace Cert.KernelIdeal.Value

open Idealize.ShloMosaic Idealize.ShloMosaic.TcCoe
open Cert.KernelIdeal Cert.Math
open Cert.KernelIdeal.Gen (hostOps0 hostOps1 hostOps2 hostOps0_W hostOps1_W hostOps2_W)
open Cert.KernelIdeal.Hand

/-! ## The host's reshapes -/

section Host

variable (σ : Valuation τ sig (Elt Ideal))

/-- The normalisation's scales as a row. -/
theorem host_scale (k : Fin 2048) : (show FVec Ideal S1x2048 .f32 from StableHlo.after hostOps0 σ (Proc.devRef .tc main_v0)) (ix2 0 k)
    = (show FVec Ideal S2048 .f32 from σ (Proc.devRef .tc main_arg6)) (ix1 k) := by
  entry_read; pointwise

/-- The normalisation's shifts as a row. -/
theorem host_shift (k : Fin 2048) : (show FVec Ideal S1x2048 .f32 from StableHlo.after hostOps0 σ (Proc.devRef .tc main_v1)) (ix2 0 k)
    = (show FVec Ideal S2048 .f32 from σ (Proc.devRef .tc main_arg7)) (ix1 k) := by
  entry_read; pointwise

/-- The projections' biases as a row. -/
theorem host_bias (k : Fin 6144) : (show FVec Ideal S1x6144 .f32 from StableHlo.after hostOps0 σ (Proc.devRef .tc main_v2)) (ix2 0 k)
    = (show FVec Ideal S6144 .f32 from σ (Proc.devRef .tc main_arg9)) (ix1 k) := by
  entry_read; pointwise

/-- The queries by sequence. -/
theorem host_queries (b : Fin 4) (i : Fin 1024) (k : Fin 2048) :
    (show FVec Ideal S4x1024x2048 .f32 from StableHlo.after hostOps1 σ (Proc.devRef .tc main_v4)) (ix3 b i k)
      = (show FVec Ideal S4096x2048 .f32 from σ (Proc.devRef .tc main_v3_0)) (ix2 (tok b i) k) := by
  entry_read; pointwise [tok]

/-- The keys by sequence. -/
theorem host_keys (b : Fin 4) (i : Fin 1024) (k : Fin 2048) :
    (show FVec Ideal S4x1024x2048 .f32 from StableHlo.after hostOps1 σ (Proc.devRef .tc main_v5)) (ix3 b i k)
      = (show FVec Ideal S4096x2048 .f32 from σ (Proc.devRef .tc main_v3_1)) (ix2 (tok b i) k) := by
  entry_read; pointwise [tok]

/-- The values by sequence. -/
theorem host_values (b : Fin 4) (i : Fin 1024) (k : Fin 2048) :
    (show FVec Ideal S4x1024x2048 .f32 from StableHlo.after hostOps1 σ (Proc.devRef .tc main_v6)) (ix3 b i k)
      = (show FVec Ideal S4096x2048 .f32 from σ (Proc.devRef .tc main_v3_2)) (ix2 (tok b i) k) := by
  entry_read; pointwise [tok]

/-- The cached keys with their heads side by side. -/
theorem host_cached_keys (b : Fin 4) (j : Fin 2048) (h : Fin 16) (x : Fin 128) :
    (show FVec Ideal S4x2048x2048 .f32 from StableHlo.after hostOps1 σ (Proc.devRef .tc main_v7)) (ix3 b j ⟨h.val * 128 + x.val, by omega⟩)
      = (show FVec Ideal S4x2048x16x128 .f32 from σ (Proc.devRef .tc main_arg2)) (ix4 b j h x) := by
  entry_read; pointwise

/-- The cached values with their heads side by side. -/
theorem host_cached_values (b : Fin 4) (j : Fin 2048) (h : Fin 16) (x : Fin 128) :
    (show FVec Ideal S4x2048x2048 .f32 from StableHlo.after hostOps1 σ (Proc.devRef .tc main_v8)) (ix3 b j ⟨h.val * 128 + x.val, by omega⟩)
      = (show FVec Ideal S4x2048x16x128 .f32 from σ (Proc.devRef .tc main_arg3)) (ix4 b j h x) := by
  entry_read; pointwise

/-- The attention's output as one array of rows. -/
theorem host_context (r : Fin 4096) (k : Fin 2048) :
    (show FVec Ideal S4096x2048 .f32 from StableHlo.after hostOps2 σ (Proc.devRef .tc main_v10)) (ix2 r k)
      = (show FVec Ideal S4x1024x2048 .f32 from σ (Proc.devRef .tc main_v9)) (ix3 ⟨r.val / 1024, by omega⟩ ⟨r.val % 1024, by omega⟩ k) := by
  entry_read; pointwise

/-- The last projection's biases as a row. -/
theorem host_out_bias (k : Fin 2048) : (show FVec Ideal S1x2048 .f32 from StableHlo.after hostOps2 σ (Proc.devRef .tc main_v11)) (ix2 0 k)
    = (show FVec Ideal S2048 .f32 from σ (Proc.devRef .tc main_arg11)) (ix1 k) := by
  entry_read; pointwise

end Host

/-! ## The calls' arrays from the arguments -/

variable (m : (ℓ : Loc nD τ sig) → Buf (Elt Ideal) ℓ) (c : Dev nD)

/-- An argument is as launched where the first call starts, where it ends, and where the last call starts. -/
theorem input_kept (a : Ref sig .tc) (ha : a ∈ inputs) : mem1 m c (Proc.devRef .tc a) = m ((c : Thread nD τ).loc a)
    ∧ mem2 m c (Proc.devRef .tc a) = m ((c : Thread nD τ).loc a) ∧ mem4 m c (Proc.devRef .tc a) = m ((c : Thread nD τ).loc a)
    ∧ mem5 m c (Proc.devRef .tc a) = m ((c : Thread nD τ).loc a) := by
  obtain ⟨⟨h0, h1, h2⟩, r0, r1, r2⟩ := inputs_kept a ha
  have e1 : mem1 m c (Proc.devRef .tc a) = m ((c : Thread nD τ).loc a) := mem1_of m c a h0
  have e2 := (mem2_of m c a r0).trans e1
  have e4 := (mem4_of m c a r1).trans ((mem3_of m c a h1).trans e2)
  exact ⟨e1, e2, e4, (mem5_of m c a h2).trans e4⟩

/-- The projections, from the arguments. -/
def projections : Fin 4096 → Fin 6144 → EReal :=
  qkvAt (fun r k => (show FVec Ideal S4096x2048 .f32 from m ((c : Thread nD τ).loc main_arg0)) (ix2 r k))
    (fun k => (show FVec Ideal S2048 .f32 from m ((c : Thread nD τ).loc main_arg6)) (ix1 k)) (fun k => (show FVec Ideal S2048 .f32 from m ((c : Thread nD τ).loc main_arg7)) (ix1 k))
    (fun k j => (show FVec Ideal S2048x6144 .f32 from m ((c : Thread nD τ).loc main_arg8)) (ix2 k j)) (fun j => (show FVec Ideal S6144 .f32 from m ((c : Thread nD τ).loc main_arg9)) (ix1 j))

/-- The attention's output, from the arguments. -/
def attention : Fin 4 → Fin 1024 → Fin 16 → Fin 128 → EReal :=
  ctxAt (projections m c) (fun b j h d => (show FVec Ideal S4x2048x16x128 .f32 from m ((c : Thread nD τ).loc main_arg2)) (ix4 b ⟨j.val, by omega⟩ h d))
    (fun b j h d => (show FVec Ideal S4x2048x16x128 .f32 from m ((c : Thread nD τ).loc main_arg3)) (ix4 b ⟨j.val, by omega⟩ h d))

/-- The projections the first call computes. -/
theorem projected_args : projected (buf1 m) c = projections m c := by
  unfold projected projections
  have h0 := (input_kept m c main_arg0 (by decide)).1
  have h8 := (input_kept m c main_arg8 (by decide)).1
  exact congr (congr (congr (congr (congrArg qkvAt (funext fun r => funext fun k => congrFun h0 (ix2 r k)))
    (funext (host_scale (mem0 m c)))) (funext (host_shift (mem0 m c)))) (funext fun k => funext fun j => congrFun h8 (ix2 k j)))
    (funext (host_bias (mem0 m c)))

/-- The queries the second call starts with. -/
theorem entry_queries (b : Fin 4) (i : Fin 1024) (k : Fin 2048) :
    (show FVec Ideal S4x1024x2048 .f32 from buf3 m c main_v4) (ix3 b i k) = projections m c (tok b i) ⟨k.val, by omega⟩ := by
  refine (host_queries (mem2 m c) b i k).trans ?_
  rw [← projected_args]
  exact congrFun ((mem2_arr m c 5).trans (queries (buf1 m) c)) (ix2 (tok b i) k)

/-- The keys the second call starts with. -/
theorem entry_keys (b : Fin 4) (i : Fin 1024) (k : Fin 2048) :
    (show FVec Ideal S4x1024x2048 .f32 from buf3 m c main_v5) (ix3 b i k) = projections m c (tok b i) ⟨2048 + k.val, by omega⟩ := by
  refine (host_keys (mem2 m c) b i k).trans ?_
  rw [← projected_args]
  exact congrFun ((mem2_arr m c 6).trans (keys (buf1 m) c)) (ix2 (tok b i) k)

/-- The values the second call starts with. -/
theorem entry_values (b : Fin 4) (i : Fin 1024) (k : Fin 2048) :
    (show FVec Ideal S4x1024x2048 .f32 from buf3 m c main_v6) (ix3 b i k) = projections m c (tok b i) ⟨4096 + k.val, by omega⟩ := by
  refine (host_values (mem2 m c) b i k).trans ?_
  rw [← projected_args]
  exact congrFun ((mem2_arr m c 7).trans (values (buf1 m) c)) (ix2 (tok b i) k)

/-- The cached keys the second call starts with. -/
theorem entry_cached_keys (b : Fin 4) (j : Fin 2048) (h : Fin 16) (x : Fin 128) :
    (show FVec Ideal S4x2048x2048 .f32 from buf3 m c main_v7) (ix3 b j ⟨h.val * 128 + x.val, by omega⟩)
      = (show FVec Ideal S4x2048x16x128 .f32 from m ((c : Thread nD τ).loc main_arg2)) (ix4 b j h x) :=
  (host_cached_keys (mem2 m c) b j h x).trans (congrFun (input_kept m c main_arg2 (by decide)).2.1 (ix4 b j h x))

/-- The cached values the second call starts with. -/
theorem entry_cached_values (b : Fin 4) (j : Fin 2048) (h : Fin 16) (x : Fin 128) :
    (show FVec Ideal S4x2048x2048 .f32 from buf3 m c main_v8) (ix3 b j ⟨h.val * 128 + x.val, by omega⟩)
      = (show FVec Ideal S4x2048x16x128 .f32 from m ((c : Thread nD τ).loc main_arg3)) (ix4 b j h x) :=
  (host_cached_values (mem2 m c) b j h x).trans (congrFun (input_kept m c main_arg3 (by decide)).2.1 (ix4 b j h x))

/-- The attention the second call computes. -/
theorem attended_args : attended (buf3 m) c = attention m c := by
  funext b i h d
  unfold attended attention ctxAt
  congr 1
  · funext x; exact (entry_queries m c b i _).trans (congrArg (projections m c _) (Fin.ext (Nat.zero_add _).symm))
  · congr 1
    · funext j x; exact entry_cached_keys m c b ⟨j.val, by omega⟩ h x
    · funext j x; exact entry_keys m c b j _
  · congr 1
    · funext j x; exact entry_cached_values m c b ⟨j.val, by omega⟩ h x
    · funext j x; exact entry_values m c b j _

/-- The result of the run, when the projections to queries and keys and the cached keys that are read are real. -/
theorem result_args (hY : ∀ (r : Fin 4096) (j : Fin 6144), j.val < 4096 → IsReal (projections m c r j))
    (hC : ∀ (b : Fin 4) (j : Fin 512) (h : Fin 16) (x : Fin 128),
      IsReal ((show FVec Ideal S4x2048x16x128 .f32 from m ((c : Thread nD τ).loc main_arg2)) (ix4 b ⟨j.val, by omega⟩ h x))) (r : Fin 4096) (j : Fin 2048) :
    (projDat (buf5 m) c).arrAt 3 cfg2.N (ix2 r j)
      = outAt (attention m c) (fun k j => (show FVec Ideal S2048x2048 .f32 from m ((c : Thread nD τ).loc main_arg10)) (ix2 k j))
          (fun j => (show FVec Ideal S2048 .f32 from m ((c : Thread nD τ).loc main_arg11)) (ix1 j)) r j := by
  refine (congrFun (result (buf5 m) c) (ix2 r j)).trans ?_
  unfold combined outAt
  refine congrArg₂ (· + ·) (Finset.sum_congr rfl fun k _ => congrArg₂ (· * ·) ?_ ?_) ?_
  · refine (host_context (mem4 m c) r k).trans ?_
    rw [← attended_args]
    refine congrFun ((mem4_arr m c 5).trans (context (buf3 m) c ?_ ?_ ?_)) (ix3 ⟨r.val / 1024, by omega⟩ ⟨r.val % 1024, by omega⟩ k)
    · intro i
      idx_vars i
      exact Eq.mpr (congrArg IsReal (entry_queries m c i0 i1 i2)) (hY _ _ (by dsimp only; omega))
    · intro b j k
      have e : k = ⟨(⟨k.val / 128, by omega⟩ : Fin 16).val * 128 + (⟨k.val % 128, by omega⟩ : Fin 128).val, by dsimp only; omega⟩ :=
        Fin.ext (by dsimp only; omega)
      rw [e]
      exact Eq.mpr (congrArg IsReal (entry_cached_keys m c b ⟨j.val, by omega⟩ ⟨k.val / 128, by omega⟩ ⟨k.val % 128, by omega⟩)) (hC b j _ _)
    · intro i
      idx_vars i
      exact Eq.mpr (congrArg IsReal (entry_keys m c i0 i1 i2)) (hY _ _ (by dsimp only; omega))
  · exact congrFun (input_kept m c main_arg10 (by decide)).2.2.2 (ix2 k j)
  · exact (host_out_bias (mem4 m c) j).trans (congrFun (input_kept m c main_arg11 (by decide)).2.2.1 (ix1 j))

end Cert.KernelIdeal.Value
-- ==== Proof.ReferenceTerm.lean ====
/- The reference's result, cut into the stages of its text and read entry by entry. -/
module

public import proofs.«01_k».proof.Proof.Gen.ReferenceIdeal.Run
public import Idealize.ShloMosaic.Lib.Pointwise
public import proofs.«01_k».proof.Proof.Spec

@[expose] public section

set_option maxRecDepth 16384

noncomputable section

namespace Cert.ReferenceIdeal.Hand

open Idealize.ShloMosaic Idealize.ShloMosaic.TcCoe
open Cert.ReferenceIdeal Cert.ReferenceIdeal.Gen Cert.Math

/-- The rows' means. -/
def refMean (A0 : FVec Ideal S4096x2048 .f32) : FVec Ideal S4096x1 .f32 :=
  Host.divf (broadcastInDim S4096x1 ![0] bcast_S4096_S4096x1_0 (Host.reduceAdd A0 (constant S_ .f32 0x00000000#32) reducesTo_S4096x2048_S4096_d1 h_S_)) (broadcastInDim S4096x1 ![] bcast_S_S4096x1 (constant S_ .f32 0x45000000#32))

/-- The rows less their means. -/
def refCentred (A0 : FVec Ideal S4096x2048 .f32) : FVec Ideal S4096x2048 .f32 :=
  subf A0 (broadcastInDim S4096x2048 ![0, 1] bcast_S4096x1_S4096x2048_0_1 (refMean A0))

/-- The normalised rows. -/
def refNorm (A0 : FVec Ideal S4096x2048 .f32) (A6 A7 : FVec Ideal S2048 .f32) : FVec Ideal S4096x2048 .f32 :=
  addf (mulf (mulf (refCentred A0) (broadcastInDim S4096x2048 ![0, 1] bcast_S4096x1_S4096x2048_0_1 (Host.rsqrt (addf (refMean (mulf (refCentred A0) (refCentred A0))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 A6))) (broadcastInDim S4096x2048 ![0, 1] bcast_S1x2048_S4096x2048_0_1 (broadcastInDim S1x2048 ![1] bcast_S2048_S1x2048_1 A7))

/-- The projections of the normalised rows. -/
def refQkv (N : FVec Ideal S4096x2048 .f32) (A8 : FVec Ideal S2048x6144 .f32) (A9 : FVec Ideal S6144 .f32) : FVec Ideal S4096x6144 .f32 :=
  addf (Host.dotGeneral dot_S4096x2048_S2048x6144_S4096x6144_1_0_0_1_n_n none N A8) (broadcastInDim S4096x6144 ![0, 1] bcast_S1x6144_S4096x6144_0_1 (broadcastInDim S1x6144 ![1] bcast_S6144_S1x6144_1 A9))

/-- The cached keys, then the fresh ones. -/
def refKeys (A2 : FVec Ideal S4x2048x16x128 .f32) (Y : FVec Ideal S4096x6144 .f32) : FVec Ideal S4x1536x16x128 .f32 :=
  concatenate S4x1536x16x128 1 [⟨S4x512x16x128, (extractStridedSlice S4x512x16x128 ![0, 0, 0, 0] A2 slices_S4x2048x16x128_S4x512x16x128_0_0_0_0)⟩, ⟨S4x1024x16x128, (shapeCast _ (extractStridedSlice S4096x2048 ![0, 2048] Y slices_S4096x6144_S4096x2048_0_2048) shapeCasts_S4096x2048_S4x1024x16x128)⟩] concatenates_S4x512x16x128_S4x1024x16x128_S4x1536x16x128_d1

/-- The cached values, then the fresh ones. -/
def refValues (A3 : FVec Ideal S4x2048x16x128 .f32) (Y : FVec Ideal S4096x6144 .f32) : FVec Ideal S4x1536x16x128 .f32 :=
  concatenate S4x1536x16x128 1 [⟨S4x512x16x128, (extractStridedSlice S4x512x16x128 ![0, 0, 0, 0] A3 slices_S4x2048x16x128_S4x512x16x128_0_0_0_0)⟩, ⟨S4x1024x16x128, (shapeCast _ (extractStridedSlice S4096x2048 ![0, 4096] Y slices_S4096x6144_S4096x2048_0_4096) shapeCasts_S4096x2048_S4x1024x16x128)⟩] concatenates_S4x512x16x128_S4x1024x16x128_S4x1536x16x128_d1

/-- The masked scores. -/
def refScores (Y : FVec Ideal S4096x6144 .f32) (K : FVec Ideal S4x1536x16x128 .f32) : FVec Ideal S4x16x1024x1536 .f32 :=
  select (broadcastInDim S4x16x1024x1536 ![0, 1, 2, 3] bcast_S1x1x1024x1536_S4x16x1024x1536_0_1_2_3 (broadcastInDim S1x1x1024x1536 ![2, 3] bcast_S1024x1536_S1x1x1024x1536_2_3 (cmpi .sle (broadcastInDim S1024x1536 ![0, 1] bcast_S1x1536_S1024x1536_0_1 (broadcastInDim S1x1536 ![1] bcast_S1536_S1x1536_1 (iotaInDim S1536 32 0))) (broadcastInDim S1024x1536 ![0, 1] bcast_S1024x1_S1024x1536_0_1 (broadcastInDim S1024x1 ![0] bcast_S1024_S1024x1_0 (addi (broadcastInDim S1024 ![] bcast_S_S1024 (constantI S_ 32 512#32)) (iotaInDim S1024 32 0))))))) (mulf (Host.dotGeneral dot_S4x1024x16x128_S4x1536x16x128_S4x16x1024x1536_3_3_1_1_02_02 none (shapeCast S4x1024x16x128 (extractStridedSlice S4096x2048 ![0, 0] Y slices_S4096x6144_S4096x2048_0_0) shapeCasts_S4096x2048_S4x1024x16x128) K) (broadcastInDim S4x16x1024x1536 ![] bcast_S_S4x16x1024x1536 (constant S_ .f32 0x3DB504F3#32))) (broadcastInDim S4x16x1024x1536 ![] bcast_S_S4x16x1024x1536 (id (constant S_ .f32 0xFF800000#32)))

/-- Each query's largest score. -/
def refMax (T : FVec Ideal S4x16x1024x1536 .f32) : FVec Ideal S4x16x1024 .f32 :=
  Host.reduce FloatOps.maximumf T (constant S_ .f32 0xFF800000#32) reducesTo_S4x16x1024x1536_S4x16x1024_d3 h_S_

/-- The exponentials of the scores less their largest. -/
def refExp (T : FVec Ideal S4x16x1024x1536 .f32) (M : FVec Ideal S4x16x1024 .f32) : FVec Ideal S4x16x1024x1536 .f32 :=
  Host.exp (subf T (broadcastInDim S4x16x1024x1536 ![0, 1, 2, 3] bcast_S4x16x1024x1_S4x16x1024x1536_0_1_2_3 (broadcastInDim S4x16x1024x1 ![0, 1, 2] bcast_S4x16x1024_S4x16x1024x1_0_1_2 (maximumf (broadcastInDim S4x16x1024 ![] bcast_S_S4x16x1024 (constant S_ .f32 0xFF800000#32)) M))))

/-- The exponentials over their sum. -/
def refWeights (E : FVec Ideal S4x16x1024x1536 .f32) : FVec Ideal S4x16x1024x1536 .f32 :=
  Host.divf E (broadcastInDim S4x16x1024x1536 ![0, 1, 2, 3] bcast_S4x16x1024x1_S4x16x1024x1536_0_1_2_3 (broadcastInDim S4x16x1024x1 ![0, 1, 2] bcast_S4x16x1024_S4x16x1024x1_0_1_2 (Host.reduceAdd E (constant S_ .f32 0x00000000#32) reducesTo_S4x16x1024x1536_S4x16x1024_d3 h_S_)))

/-- The averaged values, projected. -/
def refOut (V : FVec Ideal S4x1536x16x128 .f32) (P : FVec Ideal S4x16x1024x1536 .f32) (A10 : FVec Ideal S2048x2048 .f32) (A11 : FVec Ideal S2048 .f32) : FVec Ideal S4096x2048 .f32 :=
  addf (Host.dotGeneral dot_S4096x2048_S2048x2048_S4096x2048_1_0_0_1_n_n none (shapeCast S4096x2048 (transpose S4x1024x16x128 [0, 3, 1, 2] (Host.dotGeneral dot_S4x1536x16x128_S4x16x1024x1536_S4x16x128x1024_1_3_3_2_02_01 none V P) transposes_S4x16x128x1024_S4x1024x16x128_0_3_1_2) shapeCasts_S4x1024x16x128_S4096x2048) A10) (broadcastInDim S4096x2048 ![0, 1] bcast_S1x2048_S4096x2048_0_1 (broadcastInDim S1x2048 ![1] bcast_S2048_S1x2048_1 A11))

/-- The reference's result as a function of its arguments. -/
def refResult (A0 : FVec Ideal S4096x2048 .f32) (A2 A3 : FVec Ideal S4x2048x16x128 .f32) (A6 A7 : FVec Ideal S2048 .f32) (A8 : FVec Ideal S2048x6144 .f32) (A9 : FVec Ideal S6144 .f32) (A10 : FVec Ideal S2048x2048 .f32) (A11 : FVec Ideal S2048 .f32) : FVec Ideal S4096x2048 .f32 :=
  refOut (refValues A3 (refQkv (refNorm A0 A6 A7) A8 A9))
    (refWeights (refExp (refScores (refQkv (refNorm A0 A6 A7) A8 A9) (refKeys A2 (refQkv (refNorm A0 A6 A7) A8 A9)))
      (refMax (refScores (refQkv (refNorm A0 A6 A7) A8 A9) (refKeys A2 (refQkv (refNorm A0 A6 A7) A8 A9)))))) A10 A11

set_option maxHeartbeats 2000000 in
/-- The stages, put together, are the term the run leaves in the result buffer. -/
theorem result_stages (m : (ℓ : Loc nD τ sig) → Buf (Elt Ideal) ℓ) (c : Dev nD) :
    Cert.ReferenceIdeal.Value.res_main_v69 (F := Ideal) m c
      = refResult (m ((c.tc : Thread nD τ).loc main_arg0)) (m ((c.tc : Thread nD τ).loc main_arg2)) (m ((c.tc : Thread nD τ).loc main_arg3))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v69 refResult refOut refWeights refExp refMax refScores refValues refKeys refQkv refNorm refCentred refMean
  rfl

end Cert.ReferenceIdeal.Hand
-- ==== Proof.ReferenceRead.lean ====
/- The stages of the reference's result, read entry by entry. -/
module

public import proofs.«01_k».proof.Proof.ReferenceTerm
public import Idealize.ShloMosaic.Lib.Pointwise
public import proofs.«01_k».proof.Proof.Spec

@[expose] public section

set_option maxRecDepth 16384

noncomputable section

namespace Cert.ReferenceIdeal.Hand

open Idealize.ShloMosaic Idealize.ShloMosaic.TcCoe
open Cert.ReferenceIdeal Cert.ReferenceIdeal.Gen Cert.Math

/-- The normalised rows. -/
theorem norm_at (A0 : FVec Ideal S4096x2048 .f32) (A6 A7 : FVec Ideal S2048 .f32) (r : Fin 4096) (k : Fin 2048) :
    refNorm A0 A6 A7 (ix2 r k) = normAt (fun k => A0 (ix2 r k)) (fun k => A6 (ix1 k)) (fun k => A7 (ix1 k)) k := by
  pointwise [refNorm, refMean, refCentred, normAt, meanOf]

/-- The projections. -/
theorem qkv_at (N : FVec Ideal S4096x2048 .f32) (A8 : FVec Ideal S2048x6144 .f32) (A9 : FVec Ideal S6144 .f32) (r : Fin 4096) (c : Fin 6144) :
    refQkv N A8 A9 (ix2 r c) = (∑ k, N (ix2 r k) * A8 (ix2 k c)) + A9 (ix1 c) := by
  pointwise [refQkv]

/-- The keys: the cached ones, then the fresh ones. -/
theorem keys_at (A2 : FVec Ideal S4x2048x16x128 .f32) (Y : FVec Ideal S4096x6144 .f32) (b : Fin 4) (j : Fin 1536) (h : Fin 16) (d : Fin 128) :
    refKeys A2 Y (ix4 b j h d) = joined (fun j x => A2 (ix4 b ⟨j, by omega⟩ h x)) (fun j x => Y (ix2 (tok b j) (col 2048 h x (by decide)))) j d := by
  pointwise [refKeys, joined]

/-- The values: the cached ones, then the fresh ones. -/
theorem values_at (A2 : FVec Ideal S4x2048x16x128 .f32) (Y : FVec Ideal S4096x6144 .f32) (b : Fin 4) (j : Fin 1536) (h : Fin 16) (d : Fin 128) :
    refValues A2 Y (ix4 b j h d) = joined (fun j x => A2 (ix4 b ⟨j, by omega⟩ h x)) (fun j x => Y (ix2 (tok b j) (col 4096 h x (by decide)))) j d := by
  pointwise [refValues, joined]

/-- The masked scores. -/
theorem scores_at (Y : FVec Ideal S4096x6144 .f32) (K : FVec Ideal S4x1536x16x128 .f32) (b : Fin 4) (h : Fin 16) (i : Fin 1024) (j : Fin 1536) :
    refScores Y K (ix4 b h i j) = scoreAt i.val (fun x => Y (ix2 (tok b i) (col 0 h x (by decide)))) (fun j x => K (ix4 b j h x)) j := by
  have e : refScores Y K (ix4 b h i j)
      = Scalar.select (IntOp.cmpi .sle (BitVec.ofNat 32 j.val) (BitVec.ofNat 32 (512 + i.val)))
          ((∑ x, Y (ix2 (tok b i) ⟨h.val * 128 + x.val, by omega⟩) * K (ix4 b j h x)) * scale) ⊥ := by
    pointwise [refScores]
    simp only [id_eq, constant, ofBits_bot, Ideal.ofBits_def, scale, IntOp.addi, BitVec.ofNat_add]
  rw [e, select_sle _ _ _ _ (by omega) (by omega)]
  unfold scoreAt
  simp only [col, Nat.zero_add]

/-- The largest scores. -/
theorem max_at (T : FVec Ideal S4x16x1024x1536 .f32) (b : Fin 4) (h : Fin 16) (i : Fin 1024) :
    refMax T (ix3 b h i) = most fun l => T (ix4 b h i l) := by
  have e : refMax T (ix3 b h i) = Finset.univ.fold max (Ideal.ofBits .f32 4286578688#32) (fun l => T (ix4 b h i l)) := by
    pointwise [refMax]
  rw [e, ofBits_bot]
  rfl

/-- The exponentials. -/
theorem exp_at (T : FVec Ideal S4x16x1024x1536 .f32) (M : FVec Ideal S4x16x1024 .f32) (b : Fin 4) (h : Fin 16) (i : Fin 1024) (j : Fin 1536) :
    refExp T M (ix4 b h i j) = Ideal.exp (T (ix4 b h i j) - max ⊥ (M (ix3 b h i))) := by
  have e : refExp T M (ix4 b h i j) = Ideal.exp (T (ix4 b h i j) - max (Ideal.ofBits .f32 4286578688#32) (M (ix3 b h i))) := by
    pointwise [refExp]
  rw [e, ofBits_bot]

/-- The weights. -/
theorem weights_at (E : FVec Ideal S4x16x1024x1536 .f32) (b : Fin 4) (h : Fin 16) (i : Fin 1024) (j : Fin 1536) :
    refWeights E (ix4 b h i j) = Ideal.div (E (ix4 b h i j)) (∑ l, E (ix4 b h i l)) := by
  pointwise [refWeights]

/-- The result, from the weights and the values. -/
theorem out_at (V : FVec Ideal S4x1536x16x128 .f32) (P : FVec Ideal S4x16x1024x1536 .f32) (A10 : FVec Ideal S2048x2048 .f32) (A11 : FVec Ideal S2048 .f32) (r : Fin 4096) (c : Fin 2048) :
    refOut V P A10 A11 (ix2 r c) = outAt (fun b i h d => ∑ j, V (ix4 b j h d) * P (ix4 b h i j)) (fun k c => A10 (ix2 k c)) (fun c => A11 (ix1 c)) r c := by
  pointwise [refOut, outAt]

/-- The reference's result, entry by entry. -/
theorem result_at (A0 : FVec Ideal S4096x2048 .f32) (A2 A3 : FVec Ideal S4x2048x16x128 .f32) (A6 A7 : FVec Ideal S2048 .f32)
    (A8 : FVec Ideal S2048x6144 .f32) (A9 : FVec Ideal S6144 .f32) (A10 : FVec Ideal S2048x2048 .f32) (A11 : FVec Ideal S2048 .f32)
    (r : Fin 4096) (c : Fin 2048) :
    refResult A0 A2 A3 A6 A7 A8 A9 A10 A11 (ix2 r c)
      = outAt (ctxAt (qkvAt (fun r k => A0 (ix2 r k)) (fun k => A6 (ix1 k)) (fun k => A7 (ix1 k)) (fun k c => A8 (ix2 k c)) (fun c => A9 (ix1 c)))
            (fun b j h d => A2 (ix4 b ⟨j.val, by omega⟩ h d)) (fun b j h d => A3 (ix4 b ⟨j.val, by omega⟩ h d)))
          (fun k c => A10 (ix2 k c)) (fun c => A11 (ix1 c)) r c := by
  unfold refResult
  rw [out_at]
  refine congrArg (fun C => outAt C (fun k c => A10 (ix2 k c)) (fun c => A11 (ix1 c)) r c) ?_
  funext b i h d
  simp only [values_at, weights_at, exp_at, max_at, scores_at, keys_at, qkv_at, norm_at]
  rfl

end Cert.ReferenceIdeal.Hand
-- ==== Proof.Algebraic.lean ====
/- The idealized kernel and the idealized reference end with the same result on the same arguments, when the cached
   keys and the weights the queries and fresh keys are computed with are finite. -/
module

public import proofs.«01_k».proof.Defs
public import proofs.«01_k».proof.Proof.Finite
public import proofs.«01_k».proof.Proof.Frames
public import proofs.«01_k».proof.Proof.KernelIdealResult
public import proofs.«01_k».proof.Proof.ReferenceRead

@[expose] public section

set_option maxRecDepth 16384

noncomputable section

namespace Cert.Proof

open Idealize.ShloMosaic Idealize.SL.Sem Cert.Math

/-- With finite scores the idealized kernel runs and keeps its arguments, as it does without. -/
theorem ideal_frame_finite : Cert.quiescent_KernelIdeal_pre_finite_scores := fun m ρ _ => ideal_frame m ρ trivial

/-- With finite scores the reference runs and keeps its arguments, as it does without. -/
theorem reference_frame_finite : Cert.quiescent_ReferenceIdeal_pre_finite_scores := fun m ρ _ => reference_frame m ρ trivial

section

open Cert.KernelIdeal Cert.KernelIdeal.Hand Cert.KernelIdeal.Value

variable (m : (ℓ : Loc nD τ sig) → Buf (Elt Ideal) ℓ) (hpre : Cert.Pre_KernelIdeal_finite_scores m) (c : Dev nD)

include hpre in
/-- The projections to queries and keys are real. -/
theorem projections_real (r : Fin 4096) (j : Fin 6144) (hj : j.val < 4096) : IsReal (projections m c r j) := by
  obtain ⟨h2, h6, h7, h8, h9⟩ := hpre c
  exact qkvAt_real (fun k => Cert.Pre_finite_scores.scale_real _ _ _ _ _ _ _ _ _ _ _ _ h6 k)
    (fun k => Cert.Pre_finite_scores.shift_real _ _ _ _ _ _ _ _ _ _ _ _ h7 k) r j
    (fun k => Cert.Pre_finite_scores.weight_real _ _ _ _ _ _ _ _ _ _ _ _ h8 k ⟨j.val, hj⟩)
    (Cert.Pre_finite_scores.bias_real _ _ _ _ _ _ _ _ _ _ _ _ h9 ⟨j.val, hj⟩)

include hpre in
/-- The kernel's result is the reference's function of the kernel's arguments. -/
theorem result_same : (projDat (buf5 m) c).arrAt 3 cfg2.N
    = Cert.ReferenceIdeal.Hand.refResult (m ((c.tc : Thread nD τ).loc main_arg0)) (m ((c.tc : Thread nD τ).loc main_arg2))
        (m ((c.tc : Thread nD τ).loc main_arg3)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) := by
  funext i
  obtain ⟨r, j, rfl⟩ : ∃ (r : Fin 4096) (j : Fin 2048), i = ix2 r j := ⟨i 0, i 1, by funext a; fin_cases a <;> rfl⟩
  refine (result_args m c (projections_real m hpre c) (fun b j h x => ?_) r j).trans ?_
  · exact Cert.Pre_finite_scores.cache_real _ _ _ _ _ _ _ _ _ _ _ _ (hpre c).1 b j h x
  · exact (Cert.ReferenceIdeal.Hand.result_at _ _ _ _ _ _ _ _ _ r j).symm

end

/-- The idealized kernel computes what the reference computes. -/
theorem same_result : Cert.algebraic_KernelIdeal_ReferenceIdeal_pre_finite_scores := by
  intro m ρ m' ρ' hpre hargs
  refine ⟨fun c => (Cert.KernelIdeal.Hand.projDat (Cert.KernelIdeal.Hand.buf5 m) c).arrAt 3 Cert.KernelIdeal.cfg2.N, ?_, ?_⟩
  · exact (θ_run Cert.KernelIdeal.defs _ _).mono (fun _ h => h.1) (Cert.KernelIdeal.Hand.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hargs c
    refine Eq.trans ?_ (result_same m hpre c).symm
    rw [Cert.ReferenceIdeal.Hand.result_stages, e0, e2, e3, e6, e7, e8, e9, e10, e11]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims, the frames of the two idealized programs also under the precondition of the value claim. -/
theorem claim : Cert.Claim := ⟨Cert.Kernel.Gen.facts, Cert.KernelIdeal.Gen.facts, Cert.ReferenceIdeal.Gen.facts,
  Cert.Pre_finite_scores.facts, kernel_frame, ideal_frame, ideal_frame_finite, reference_frame, reference_frame_finite,
  mask_named, same_result⟩

end Cert.Proof

end
